-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x4096 : Shape := ⟨2, ![16384, 4096]⟩
abbrev S_ : Shape := ⟨0, ![]⟩
abbrev S1 : Shape := ⟨1, ![1]⟩
abbrev S2 : Shape := ⟨1, ![2]⟩
abbrev S4096 : Shape := ⟨1, ![4096]⟩
abbrev S1x4096 : Shape := ⟨2, ![1, 4096]⟩
abbrev S6x256x4096 : Shape := ⟨3, ![6, 256, 4096]⟩
abbrev S6 : Shape := ⟨1, ![6]⟩
abbrev S1x256x4096 : Shape := ⟨3, ![1, 256, 4096]⟩
abbrev S256x4096 : Shape := ⟨2, ![256, 4096]⟩

abbrev nBuf : Space → Nat
  | .hbm => 276
  | .vmem => 3
  | .smem => 0
  | _ => 0

abbrev hbmTy0_0 (i : Nat) : BufTy := match i % 128 with
  | 0 => ⟨S16384x4096, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S_, .f32⟩
  | 16 => ⟨S1, .f32⟩
  | 17 => ⟨S1, .f32⟩
  | 18 => ⟨S1, .i32⟩
  | 19 => ⟨S_, .i32⟩
  | 20 => ⟨S1, .i32⟩
  | 21 => ⟨S_, .i32⟩
  | 22 => ⟨S4096, .i64⟩
  | 23 => ⟨S_, .i64⟩
  | 24 => ⟨S4096, .i64⟩
  | 25 => ⟨S4096, .i64⟩
  | 26 => ⟨S_, .i64⟩
  | 27 => ⟨S4096, .i64⟩
  | 28 => ⟨S4096, .i64⟩
  | 29 => ⟨S4096, .i32⟩
  | 30 => ⟨S4096, .i32⟩
  | 31 => ⟨S_, .i32⟩
  | 32 => ⟨S_, .i32⟩
  | 33 => ⟨S_, .i32⟩
  | 34 => ⟨S4096, .i32⟩
  | 35 => ⟨S4096, .i32⟩
  | 36 => ⟨S4096, .i32⟩
  | 37 => ⟨S4096, .i32⟩
  | 38 => ⟨S4096, .i32⟩
  | 39 => ⟨S_, .i32⟩
  | 40 => ⟨S4096, .i32⟩
  | 41 => ⟨S4096, .i32⟩
  | 42 => ⟨S_, .i32⟩
  | 43 => ⟨S4096, .i32⟩
  | 44 => ⟨S4096, .i32⟩
  | 45 => ⟨S4096, .i32⟩
  | 46 => ⟨S4096, .i32⟩
  | 47 => ⟨S4096, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i32⟩
  | 54 => ⟨S4096, .i32⟩
  | 55 => ⟨S4096, .i32⟩
  | 56 => ⟨S4096, .i32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S4096, .i32⟩
  | 64 => ⟨S4096, .i32⟩
  | 65 => ⟨S4096, .i32⟩
  | 66 => ⟨S_, .i32⟩
  | 67 => ⟨S4096, .i32⟩
  | 68 => ⟨S4096, .i32⟩
  | 69 => ⟨S_, .i32⟩
  | 70 => ⟨S4096, .i32⟩
  | 71 => ⟨S4096, .i32⟩
  | 72 => ⟨S4096, .i32⟩
  | 73 => ⟨S4096, .i32⟩
  | 74 => ⟨S4096, .i32⟩
  | 75 => ⟨S4096, .i32⟩
  | 76 => ⟨S4096, .i32⟩
  | 77 => ⟨S4096, .i32⟩
  | 78 => ⟨S_, .i32⟩
  | 79 => ⟨S4096, .i32⟩
  | 80 => ⟨S4096, .i32⟩
  | 81 => ⟨S4096, .i32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S4096, .i32⟩
  | 89 => ⟨S4096, .i32⟩
  | 90 => ⟨S4096, .i32⟩
  | 91 => ⟨S_, .i32⟩
  | 92 => ⟨S4096, .i32⟩
  | 93 => ⟨S4096, .i32⟩
  | 94 => ⟨S_, .i32⟩
  | 95 => ⟨S4096, .i32⟩
  | 96 => ⟨S4096, .i32⟩
  | 97 => ⟨S4096, .i32⟩
  | 98 => ⟨S4096, .i32⟩
  | 99 => ⟨S4096, .i32⟩
  | 100 => ⟨S_, .i32⟩
  | 101 => ⟨S4096, .i32⟩
  | 102 => ⟨S4096, .i32⟩
  | 103 => ⟨S_, .i32⟩
  | 104 => ⟨S4096, .i32⟩
  | 105 => ⟨S4096, .i32⟩
  | 106 => ⟨S4096, .i32⟩
  | 107 => ⟨S4096, .i32⟩
  | 108 => ⟨S4096, .i32⟩
  | 109 => ⟨S_, .i32⟩
  | 110 => ⟨S4096, .i32⟩
  | 111 => ⟨S4096, .i32⟩
  | 112 => ⟨S_, .i32⟩
  | 113 => ⟨S4096, .i32⟩
  | 114 => ⟨S4096, .i32⟩
  | 115 => ⟨S4096, .i32⟩
  | 116 => ⟨S4096, .i32⟩
  | 117 => ⟨S4096, .i32⟩
  | 118 => ⟨S4096, .i32⟩
  | 119 => ⟨S4096, .i32⟩
  | 120 => ⟨S4096, .i32⟩
  | 121 => ⟨S_, .i32⟩
  | 122 => ⟨S4096, .i32⟩
  | 123 => ⟨S4096, .i32⟩
  | 124 => ⟨S4096, .i32⟩
  | 125 => ⟨S_, .i32⟩
  | 126 => ⟨S4096, .i32⟩
  | 127 => ⟨S4096, .i32⟩
  | _ => ⟨S16384x4096, .f32⟩

abbrev hbmTy0_1 (i : Nat) : BufTy := match i % 128 with
  | 0 => ⟨S_, .i32⟩
  | 1 => ⟨S4096, .i32⟩
  | 2 => ⟨S4096, .i32⟩
  | 3 => ⟨S4096, .i32⟩
  | 4 => ⟨S4096, .i32⟩
  | 5 => ⟨S4096, .i32⟩
  | 6 => ⟨S_, .i32⟩
  | 7 => ⟨S4096, .i32⟩
  | 8 => ⟨S4096, .i32⟩
  | 9 => ⟨S_, .i32⟩
  | 10 => ⟨S4096, .i32⟩
  | 11 => ⟨S4096, .i32⟩
  | 12 => ⟨S4096, .i32⟩
  | 13 => ⟨S4096, .i32⟩
  | 14 => ⟨S4096, .i32⟩
  | 15 => ⟨S_, .i32⟩
  | 16 => ⟨S4096, .i32⟩
  | 17 => ⟨S4096, .i32⟩
  | 18 => ⟨S_, .i32⟩
  | 19 => ⟨S4096, .i32⟩
  | 20 => ⟨S4096, .i32⟩
  | 21 => ⟨S4096, .i32⟩
  | 22 => ⟨S4096, .i32⟩
  | 23 => ⟨S4096, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S4096, .i32⟩
  | 31 => ⟨S4096, .i32⟩
  | 32 => ⟨S4096, .i32⟩
  | 33 => ⟨S4096, .i32⟩
  | 34 => ⟨S4096, .i32⟩
  | 35 => ⟨S4096, .i32⟩
  | 36 => ⟨S_, .i32⟩
  | 37 => ⟨S4096, .i32⟩
  | 38 => ⟨S4096, .i32⟩
  | 39 => ⟨S4096, .i32⟩
  | 40 => ⟨S_, .i32⟩
  | 41 => ⟨S4096, .i32⟩
  | 42 => ⟨S4096, .i32⟩
  | 43 => ⟨S_, .i32⟩
  | 44 => ⟨S4096, .i32⟩
  | 45 => ⟨S4096, .i32⟩
  | 46 => ⟨S4096, .i32⟩
  | 47 => ⟨S4096, .i32⟩
  | 48 => ⟨S4096, .i32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S4096, .i32⟩
  | 56 => ⟨S4096, .i32⟩
  | 57 => ⟨S4096, .i32⟩
  | 58 => ⟨S_, .i32⟩
  | 59 => ⟨S4096, .i32⟩
  | 60 => ⟨S4096, .i32⟩
  | 61 => ⟨S_, .i32⟩
  | 62 => ⟨S4096, .i32⟩
  | 63 => ⟨S4096, .i32⟩
  | 64 => ⟨S4096, .i32⟩
  | 65 => ⟨S4096, .i32⟩
  | 66 => ⟨S4096, .i32⟩
  | 67 => ⟨S_, .i32⟩
  | 68 => ⟨S4096, .i32⟩
  | 69 => ⟨S4096, .i32⟩
  | 70 => ⟨S_, .i32⟩
  | 71 => ⟨S4096, .i32⟩
  | 72 => ⟨S4096, .i32⟩
  | 73 => ⟨S4096, .i32⟩
  | 74 => ⟨S4096, .i32⟩
  | 75 => ⟨S4096, .i32⟩
  | 76 => ⟨S4096, .i32⟩
  | 77 => ⟨S4096, .i32⟩
  | 78 => ⟨S4096, .i32⟩
  | 79 => ⟨S_, .i32⟩
  | 80 => ⟨S4096, .i32⟩
  | 81 => ⟨S4096, .i32⟩
  | 82 => ⟨S4096, .i32⟩
  | 83 => ⟨S_, .i32⟩
  | 84 => ⟨S4096, .i32⟩
  | 85 => ⟨S4096, .i32⟩
  | 86 => ⟨S_, .i32⟩
  | 87 => ⟨S4096, .i32⟩
  | 88 => ⟨S4096, .i32⟩
  | 89 => ⟨S4096, .i32⟩
  | 90 => ⟨S4096, .i32⟩
  | 91 => ⟨S4096, .i32⟩
  | 92 => ⟨S_, .i32⟩
  | 93 => ⟨S4096, .i32⟩
  | 94 => ⟨S4096, .i32⟩
  | 95 => ⟨S_, .i32⟩
  | 96 => ⟨S4096, .i32⟩
  | 97 => ⟨S4096, .i32⟩
  | 98 => ⟨S4096, .i32⟩
  | 99 => ⟨S4096, .i32⟩
  | 100 => ⟨S4096, .i32⟩
  | 101 => ⟨S_, .i32⟩
  | 102 => ⟨S4096, .i32⟩
  | 103 => ⟨S4096, .i32⟩
  | 104 => ⟨S_, .i32⟩
  | 105 => ⟨S4096, .i32⟩
  | 106 => ⟨S4096, .i32⟩
  | 107 => ⟨S4096, .i32⟩
  | 108 => ⟨S4096, .i32⟩
  | 109 => ⟨S4096, .i32⟩
  | 110 => ⟨S_, .i32⟩
  | 111 => ⟨S4096, .i32⟩
  | 112 => ⟨S4096, .i32⟩
  | 113 => ⟨S_, .i32⟩
  | 114 => ⟨S4096, .i32⟩
  | 115 => ⟨S4096, .i32⟩
  | 116 => ⟨S4096, .i32⟩
  | 117 => ⟨S4096, .i32⟩
  | 118 => ⟨S4096, .i32⟩
  | 119 => ⟨S4096, .i32⟩
  | 120 => ⟨S4096, .i32⟩
  | 121 => ⟨S4096, .i32⟩
  | 122 => ⟨S_, .i32⟩
  | 123 => ⟨S4096, .i32⟩
  | 124 => ⟨S4096, .i32⟩
  | 125 => ⟨S4096, .i32⟩
  | 126 => ⟨S_, .i32⟩
  | 127 => ⟨S4096, .i32⟩
  | _ => ⟨S16384x4096, .f32⟩

abbrev hbmTy0_2 (i : Nat) : BufTy := match i % 128 with
  | 0 => ⟨S4096, .i32⟩
  | 1 => ⟨S_, .i32⟩
  | 2 => ⟨S4096, .i32⟩
  | 3 => ⟨S4096, .i32⟩
  | 4 => ⟨S4096, .f32⟩
  | 5 => ⟨S_, .f32⟩
  | 6 => ⟨S4096, .f32⟩
  | 7 => ⟨S4096, .f32⟩
  | 8 => ⟨S1, .f32⟩
  | 9 => ⟨S4096, .f32⟩
  | 10 => ⟨S4096, .f32⟩
  | 11 => ⟨S4096, .f32⟩
  | 12 => ⟨S4096, .f32⟩
  | 13 => ⟨S4096, .f32⟩
  | 14 => ⟨S4096, .f32⟩
  | 15 => ⟨S4096, .f32⟩
  | 16 => ⟨S4096, .i1⟩
  | 17 => ⟨S4096, .f32⟩
  | 18 => ⟨S1x4096, .f32⟩
  | 19 => ⟨S16384x4096, .f32⟩
  | _ => ⟨S16384x4096, .f32⟩

abbrev hbmTy (i : Nat) : BufTy := match i / 128 with
  | 0 => hbmTy0_0 i
  | 1 => hbmTy0_1 i
  | 2 => hbmTy0_2 i
  | _ => ⟨S16384x4096, .f32⟩

abbrev bufTy : (tb : Table) → Fin (tcTables nBuf tb) → BufTy
  | .hbm, ⟨i, _⟩ => hbmTy i
  | .local _ .vmem, ⟨0, _⟩ => ⟨S1x4096, .f32⟩
  | .local _ .vmem, ⟨1, _⟩ => ⟨S6x256x4096, .f32⟩
  | .local _ .vmem, ⟨2, _⟩ => ⟨S6x256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_cst : Ref sig .tc := ⟨.hbm, 12, rfl⟩
abbrev main_call0_cst_0 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_c : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_c_0 : Ref sig .tc := ⟨.hbm, 26, rfl⟩
abbrev main_call0_call0_v11 : Ref sig .tc := ⟨.hbm, 27, rfl⟩
abbrev main_call0_call0_v12 : Ref sig .tc := ⟨.hbm, 28, rfl⟩
abbrev main_call0_call0_v13 : Ref sig .tc := ⟨.hbm, 29, rfl⟩
abbrev main_call0_call0_v14 : Ref sig .tc := ⟨.hbm, 30, rfl⟩
abbrev main_call0_call0_call0_v0 : Ref sig .tc := ⟨.hbm, 31, rfl⟩
abbrev main_call0_call0_call0_c : Ref sig .tc := ⟨.hbm, 32, rfl⟩
abbrev main_call0_call0_call0_v1 : Ref sig .tc := ⟨.hbm, 33, rfl⟩
abbrev main_call0_call0_call0_v2 : Ref sig .tc := ⟨.hbm, 34, rfl⟩
abbrev main_call0_call0_call0_v3 : Ref sig .tc := ⟨.hbm, 35, rfl⟩
abbrev main_call0_call0_call0_v4 : Ref sig .tc := ⟨.hbm, 36, rfl⟩
abbrev main_call0_call0_call0_v5 : Ref sig .tc := ⟨.hbm, 37, rfl⟩
abbrev main_call0_call0_call0_v6 : Ref sig .tc := ⟨.hbm, 38, rfl⟩
abbrev main_call0_call0_call0_c_0 : Ref sig .tc := ⟨.hbm, 39, rfl⟩
abbrev main_call0_call0_call0_v7 : Ref sig .tc := ⟨.hbm, 40, rfl⟩
abbrev main_call0_call0_call0_v8 : Ref sig .tc := ⟨.hbm, 41, rfl⟩
abbrev main_call0_call0_call0_c_1 : Ref sig .tc := ⟨.hbm, 42, rfl⟩
abbrev main_call0_call0_call0_v9 : Ref sig .tc := ⟨.hbm, 43, rfl⟩
abbrev main_call0_call0_call0_v10 : Ref sig .tc := ⟨.hbm, 44, rfl⟩
abbrev main_call0_call0_call0_v11 : Ref sig .tc := ⟨.hbm, 45, rfl⟩
abbrev main_call0_call0_call0_v12 : Ref sig .tc := ⟨.hbm, 46, rfl⟩
abbrev main_call0_call0_call0_v13 : Ref sig .tc := ⟨.hbm, 47, rfl⟩
abbrev main_call0_call0_call0_c_2 : Ref sig .tc := ⟨.hbm, 48, rfl⟩
abbrev main_call0_call0_call0_v14 : Ref sig .tc := ⟨.hbm, 49, rfl⟩
abbrev main_call0_call0_call0_v15 : Ref sig .tc := ⟨.hbm, 50, rfl⟩
abbrev main_call0_call0_call0_c_3 : Ref sig .tc := ⟨.hbm, 51, rfl⟩
abbrev main_call0_call0_call0_v16 : Ref sig .tc := ⟨.hbm, 52, rfl⟩
abbrev main_call0_call0_call0_v17 : Ref sig .tc := ⟨.hbm, 53, rfl⟩
abbrev main_call0_call0_call0_v18 : Ref sig .tc := ⟨.hbm, 54, rfl⟩
abbrev main_call0_call0_call0_v19 : Ref sig .tc := ⟨.hbm, 55, rfl⟩
abbrev main_call0_call0_call0_v20 : Ref sig .tc := ⟨.hbm, 56, rfl⟩
abbrev main_call0_call0_call0_c_4 : Ref sig .tc := ⟨.hbm, 57, rfl⟩
abbrev main_call0_call0_call0_v21 : Ref sig .tc := ⟨.hbm, 58, rfl⟩
abbrev main_call0_call0_call0_v22 : Ref sig .tc := ⟨.hbm, 59, rfl⟩
abbrev main_call0_call0_call0_c_5 : Ref sig .tc := ⟨.hbm, 60, rfl⟩
abbrev main_call0_call0_call0_v23 : Ref sig .tc := ⟨.hbm, 61, rfl⟩
abbrev main_call0_call0_call0_v24 : Ref sig .tc := ⟨.hbm, 62, rfl⟩
abbrev main_call0_call0_call0_v25 : Ref sig .tc := ⟨.hbm, 63, rfl⟩
abbrev main_call0_call0_call0_v26 : Ref sig .tc := ⟨.hbm, 64, rfl⟩
abbrev main_call0_call0_call0_v27 : Ref sig .tc := ⟨.hbm, 65, rfl⟩
abbrev main_call0_call0_call0_c_6 : Ref sig .tc := ⟨.hbm, 66, rfl⟩
abbrev main_call0_call0_call0_v28 : Ref sig .tc := ⟨.hbm, 67, rfl⟩
abbrev main_call0_call0_call0_v29 : Ref sig .tc := ⟨.hbm, 68, rfl⟩
abbrev main_call0_call0_call0_c_7 : Ref sig .tc := ⟨.hbm, 69, rfl⟩
abbrev main_call0_call0_call0_v30 : Ref sig .tc := ⟨.hbm, 70, rfl⟩
abbrev main_call0_call0_call0_v31 : Ref sig .tc := ⟨.hbm, 71, rfl⟩
abbrev main_call0_call0_call0_v32 : Ref sig .tc := ⟨.hbm, 72, rfl⟩
abbrev main_call0_call0_call0_v33 : Ref sig .tc := ⟨.hbm, 73, rfl⟩
abbrev main_call0_call0_call0_v34 : Ref sig .tc := ⟨.hbm, 74, rfl⟩
abbrev main_call0_call0_call0_v35 : Ref sig .tc := ⟨.hbm, 75, rfl⟩
abbrev main_call0_call0_call0_v36 : Ref sig .tc := ⟨.hbm, 76, rfl⟩
abbrev main_call0_call0_call0_v37 : Ref sig .tc := ⟨.hbm, 77, rfl⟩
abbrev main_call0_call0_call0_c_8 : Ref sig .tc := ⟨.hbm, 78, rfl⟩
abbrev main_call0_call0_call0_v38 : Ref sig .tc := ⟨.hbm, 79, rfl⟩
abbrev main_call0_call0_call0_v39 : Ref sig .tc := ⟨.hbm, 80, rfl⟩
abbrev main_call0_call0_call0_v40 : Ref sig .tc := ⟨.hbm, 81, rfl⟩
abbrev main_call0_call0_call0_c_9 : Ref sig .tc := ⟨.hbm, 82, rfl⟩
abbrev main_call0_call0_call0_v41 : Ref sig .tc := ⟨.hbm, 83, rfl⟩
abbrev main_call0_call0_call0_v42 : Ref sig .tc := ⟨.hbm, 84, rfl⟩
abbrev main_call0_call0_call0_c_10 : Ref sig .tc := ⟨.hbm, 85, rfl⟩
abbrev main_call0_call0_call0_v43 : Ref sig .tc := ⟨.hbm, 86, rfl⟩
abbrev main_call0_call0_call0_v44 : Ref sig .tc := ⟨.hbm, 87, rfl⟩
abbrev main_call0_call0_call0_v45 : Ref sig .tc := ⟨.hbm, 88, rfl⟩
abbrev main_call0_call0_call0_v46 : Ref sig .tc := ⟨.hbm, 89, rfl⟩
abbrev main_call0_call0_call0_v47 : Ref sig .tc := ⟨.hbm, 90, rfl⟩
abbrev main_call0_call0_call0_c_11 : Ref sig .tc := ⟨.hbm, 91, rfl⟩
abbrev main_call0_call0_call0_v48 : Ref sig .tc := ⟨.hbm, 92, rfl⟩
abbrev main_call0_call0_call0_v49 : Ref sig .tc := ⟨.hbm, 93, rfl⟩
abbrev main_call0_call0_call0_c_12 : Ref sig .tc := ⟨.hbm, 94, rfl⟩
abbrev main_call0_call0_call0_v50 : Ref sig .tc := ⟨.hbm, 95, rfl⟩
abbrev main_call0_call0_call0_v51 : Ref sig .tc := ⟨.hbm, 96, rfl⟩
abbrev main_call0_call0_call0_v52 : Ref sig .tc := ⟨.hbm, 97, rfl⟩
abbrev main_call0_call0_call0_v53 : Ref sig .tc := ⟨.hbm, 98, rfl⟩
abbrev main_call0_call0_call0_v54 : Ref sig .tc := ⟨.hbm, 99, rfl⟩
abbrev main_call0_call0_call0_c_13 : Ref sig .tc := ⟨.hbm, 100, rfl⟩
abbrev main_call0_call0_call0_v55 : Ref sig .tc := ⟨.hbm, 101, rfl⟩
abbrev main_call0_call0_call0_v56 : Ref sig .tc := ⟨.hbm, 102, rfl⟩
abbrev main_call0_call0_call0_c_14 : Ref sig .tc := ⟨.hbm, 103, rfl⟩
abbrev main_call0_call0_call0_v57 : Ref sig .tc := ⟨.hbm, 104, rfl⟩
abbrev main_call0_call0_call0_v58 : Ref sig .tc := ⟨.hbm, 105, rfl⟩
abbrev main_call0_call0_call0_v59 : Ref sig .tc := ⟨.hbm, 106, rfl⟩
abbrev main_call0_call0_call0_v60 : Ref sig .tc := ⟨.hbm, 107, rfl⟩
abbrev main_call0_call0_call0_v61 : Ref sig .tc := ⟨.hbm, 108, rfl⟩
abbrev main_call0_call0_call0_c_15 : Ref sig .tc := ⟨.hbm, 109, rfl⟩
abbrev main_call0_call0_call0_v62 : Ref sig .tc := ⟨.hbm, 110, rfl⟩
abbrev main_call0_call0_call0_v63 : Ref sig .tc := ⟨.hbm, 111, rfl⟩
abbrev main_call0_call0_call0_c_16 : Ref sig .tc := ⟨.hbm, 112, rfl⟩
abbrev main_call0_call0_call0_v64 : Ref sig .tc := ⟨.hbm, 113, rfl⟩
abbrev main_call0_call0_call0_v65 : Ref sig .tc := ⟨.hbm, 114, rfl⟩
abbrev main_call0_call0_call0_v66 : Ref sig .tc := ⟨.hbm, 115, rfl⟩
abbrev main_call0_call0_call0_v67 : Ref sig .tc := ⟨.hbm, 116, rfl⟩
abbrev main_call0_call0_call0_v68 : Ref sig .tc := ⟨.hbm, 117, rfl⟩
abbrev main_call0_call0_call0_v69 : Ref sig .tc := ⟨.hbm, 118, rfl⟩
abbrev main_call0_call0_call0_v70 : Ref sig .tc := ⟨.hbm, 119, rfl⟩
abbrev main_call0_call0_call0_v71 : Ref sig .tc := ⟨.hbm, 120, rfl⟩
abbrev main_call0_call0_call0_c_17 : Ref sig .tc := ⟨.hbm, 121, rfl⟩
abbrev main_call0_call0_call0_v72 : Ref sig .tc := ⟨.hbm, 122, rfl⟩
abbrev main_call0_call0_call0_v73 : Ref sig .tc := ⟨.hbm, 123, rfl⟩
abbrev main_call0_call0_call0_v74 : Ref sig .tc := ⟨.hbm, 124, rfl⟩
abbrev main_call0_call0_call0_c_18 : Ref sig .tc := ⟨.hbm, 125, rfl⟩
abbrev main_call0_call0_call0_v75 : Ref sig .tc := ⟨.hbm, 126, rfl⟩
abbrev main_call0_call0_call0_v76 : Ref sig .tc := ⟨.hbm, 127, rfl⟩
abbrev main_call0_call0_call0_c_19 : Ref sig .tc := ⟨.hbm, 128, rfl⟩
abbrev main_call0_call0_call0_v77 : Ref sig .tc := ⟨.hbm, 129, rfl⟩
abbrev main_call0_call0_call0_v78 : Ref sig .tc := ⟨.hbm, 130, rfl⟩
abbrev main_call0_call0_call0_v79 : Ref sig .tc := ⟨.hbm, 131, rfl⟩
abbrev main_call0_call0_call0_v80 : Ref sig .tc := ⟨.hbm, 132, rfl⟩
abbrev main_call0_call0_call0_v81 : Ref sig .tc := ⟨.hbm, 133, rfl⟩
abbrev main_call0_call0_call0_c_20 : Ref sig .tc := ⟨.hbm, 134, rfl⟩
abbrev main_call0_call0_call0_v82 : Ref sig .tc := ⟨.hbm, 135, rfl⟩
abbrev main_call0_call0_call0_v83 : Ref sig .tc := ⟨.hbm, 136, rfl⟩
abbrev main_call0_call0_call0_c_21 : Ref sig .tc := ⟨.hbm, 137, rfl⟩
abbrev main_call0_call0_call0_v84 : Ref sig .tc := ⟨.hbm, 138, rfl⟩
abbrev main_call0_call0_call0_v85 : Ref sig .tc := ⟨.hbm, 139, rfl⟩
abbrev main_call0_call0_call0_v86 : Ref sig .tc := ⟨.hbm, 140, rfl⟩
abbrev main_call0_call0_call0_v87 : Ref sig .tc := ⟨.hbm, 141, rfl⟩
abbrev main_call0_call0_call0_v88 : Ref sig .tc := ⟨.hbm, 142, rfl⟩
abbrev main_call0_call0_call0_c_22 : Ref sig .tc := ⟨.hbm, 143, rfl⟩
abbrev main_call0_call0_call0_v89 : Ref sig .tc := ⟨.hbm, 144, rfl⟩
abbrev main_call0_call0_call0_v90 : Ref sig .tc := ⟨.hbm, 145, rfl⟩
abbrev main_call0_call0_call0_c_23 : Ref sig .tc := ⟨.hbm, 146, rfl⟩
abbrev main_call0_call0_call0_v91 : Ref sig .tc := ⟨.hbm, 147, rfl⟩
abbrev main_call0_call0_call0_v92 : Ref sig .tc := ⟨.hbm, 148, rfl⟩
abbrev main_call0_call0_call0_v93 : Ref sig .tc := ⟨.hbm, 149, rfl⟩
abbrev main_call0_call0_call0_v94 : Ref sig .tc := ⟨.hbm, 150, rfl⟩
abbrev main_call0_call0_call0_v95 : Ref sig .tc := ⟨.hbm, 151, rfl⟩
abbrev main_call0_call0_call0_c_24 : Ref sig .tc := ⟨.hbm, 152, rfl⟩
abbrev main_call0_call0_call0_v96 : Ref sig .tc := ⟨.hbm, 153, rfl⟩
abbrev main_call0_call0_call0_v97 : Ref sig .tc := ⟨.hbm, 154, rfl⟩
abbrev main_call0_call0_call0_c_25 : Ref sig .tc := ⟨.hbm, 155, rfl⟩
abbrev main_call0_call0_call0_v98 : Ref sig .tc := ⟨.hbm, 156, rfl⟩
abbrev main_call0_call0_call0_v99 : Ref sig .tc := ⟨.hbm, 157, rfl⟩
abbrev main_call0_call0_call0_v100 : Ref sig .tc := ⟨.hbm, 158, rfl⟩
abbrev main_call0_call0_call0_v101 : Ref sig .tc := ⟨.hbm, 159, rfl⟩
abbrev main_call0_call0_call0_v102 : Ref sig .tc := ⟨.hbm, 160, rfl⟩
abbrev main_call0_call0_call0_v103 : Ref sig .tc := ⟨.hbm, 161, rfl⟩
abbrev main_call0_call0_call0_v104 : Ref sig .tc := ⟨.hbm, 162, rfl⟩
abbrev main_call0_call0_call0_v105 : Ref sig .tc := ⟨.hbm, 163, rfl⟩
abbrev main_call0_call0_call0_c_26 : Ref sig .tc := ⟨.hbm, 164, rfl⟩
abbrev main_call0_call0_call0_v106 : Ref sig .tc := ⟨.hbm, 165, rfl⟩
abbrev main_call0_call0_call0_v107 : Ref sig .tc := ⟨.hbm, 166, rfl⟩
abbrev main_call0_call0_call0_v108 : Ref sig .tc := ⟨.hbm, 167, rfl⟩
abbrev main_call0_call0_call0_c_27 : Ref sig .tc := ⟨.hbm, 168, rfl⟩
abbrev main_call0_call0_call0_v109 : Ref sig .tc := ⟨.hbm, 169, rfl⟩
abbrev main_call0_call0_call0_v110 : Ref sig .tc := ⟨.hbm, 170, rfl⟩
abbrev main_call0_call0_call0_c_28 : Ref sig .tc := ⟨.hbm, 171, rfl⟩
abbrev main_call0_call0_call0_v111 : Ref sig .tc := ⟨.hbm, 172, rfl⟩
abbrev main_call0_call0_call0_v112 : Ref sig .tc := ⟨.hbm, 173, rfl⟩
abbrev main_call0_call0_call0_v113 : Ref sig .tc := ⟨.hbm, 174, rfl⟩
abbrev main_call0_call0_call0_v114 : Ref sig .tc := ⟨.hbm, 175, rfl⟩
abbrev main_call0_call0_call0_v115 : Ref sig .tc := ⟨.hbm, 176, rfl⟩
abbrev main_call0_call0_call0_c_29 : Ref sig .tc := ⟨.hbm, 177, rfl⟩
abbrev main_call0_call0_call0_v116 : Ref sig .tc := ⟨.hbm, 178, rfl⟩
abbrev main_call0_call0_call0_v117 : Ref sig .tc := ⟨.hbm, 179, rfl⟩
abbrev main_call0_call0_call0_c_30 : Ref sig .tc := ⟨.hbm, 180, rfl⟩
abbrev main_call0_call0_call0_v118 : Ref sig .tc := ⟨.hbm, 181, rfl⟩
abbrev main_call0_call0_call0_v119 : Ref sig .tc := ⟨.hbm, 182, rfl⟩
abbrev main_call0_call0_call0_v120 : Ref sig .tc := ⟨.hbm, 183, rfl⟩
abbrev main_call0_call0_call0_v121 : Ref sig .tc := ⟨.hbm, 184, rfl⟩
abbrev main_call0_call0_call0_v122 : Ref sig .tc := ⟨.hbm, 185, rfl⟩
abbrev main_call0_call0_call0_c_31 : Ref sig .tc := ⟨.hbm, 186, rfl⟩
abbrev main_call0_call0_call0_v123 : Ref sig .tc := ⟨.hbm, 187, rfl⟩
abbrev main_call0_call0_call0_v124 : Ref sig .tc := ⟨.hbm, 188, rfl⟩
abbrev main_call0_call0_call0_c_32 : Ref sig .tc := ⟨.hbm, 189, rfl⟩
abbrev main_call0_call0_call0_v125 : Ref sig .tc := ⟨.hbm, 190, rfl⟩
abbrev main_call0_call0_call0_v126 : Ref sig .tc := ⟨.hbm, 191, rfl⟩
abbrev main_call0_call0_call0_v127 : Ref sig .tc := ⟨.hbm, 192, rfl⟩
abbrev main_call0_call0_call0_v128 : Ref sig .tc := ⟨.hbm, 193, rfl⟩
abbrev main_call0_call0_call0_v129 : Ref sig .tc := ⟨.hbm, 194, rfl⟩
abbrev main_call0_call0_call0_c_33 : Ref sig .tc := ⟨.hbm, 195, rfl⟩
abbrev main_call0_call0_call0_v130 : Ref sig .tc := ⟨.hbm, 196, rfl⟩
abbrev main_call0_call0_call0_v131 : Ref sig .tc := ⟨.hbm, 197, rfl⟩
abbrev main_call0_call0_call0_c_34 : Ref sig .tc := ⟨.hbm, 198, rfl⟩
abbrev main_call0_call0_call0_v132 : Ref sig .tc := ⟨.hbm, 199, rfl⟩
abbrev main_call0_call0_call0_v133 : Ref sig .tc := ⟨.hbm, 200, rfl⟩
abbrev main_call0_call0_call0_v134 : Ref sig .tc := ⟨.hbm, 201, rfl⟩
abbrev main_call0_call0_call0_v135 : Ref sig .tc := ⟨.hbm, 202, rfl⟩
abbrev main_call0_call0_call0_v136 : Ref sig .tc := ⟨.hbm, 203, rfl⟩
abbrev main_call0_call0_call0_v137 : Ref sig .tc := ⟨.hbm, 204, rfl⟩
abbrev main_call0_call0_call0_v138 : Ref sig .tc := ⟨.hbm, 205, rfl⟩
abbrev main_call0_call0_call0_v139 : Ref sig .tc := ⟨.hbm, 206, rfl⟩
abbrev main_call0_call0_call0_c_35 : Ref sig .tc := ⟨.hbm, 207, rfl⟩
abbrev main_call0_call0_call0_v140 : Ref sig .tc := ⟨.hbm, 208, rfl⟩
abbrev main_call0_call0_call0_v141 : Ref sig .tc := ⟨.hbm, 209, rfl⟩
abbrev main_call0_call0_call0_v142 : Ref sig .tc := ⟨.hbm, 210, rfl⟩
abbrev main_call0_call0_call0_c_36 : Ref sig .tc := ⟨.hbm, 211, rfl⟩
abbrev main_call0_call0_call0_v143 : Ref sig .tc := ⟨.hbm, 212, rfl⟩
abbrev main_call0_call0_call0_v144 : Ref sig .tc := ⟨.hbm, 213, rfl⟩
abbrev main_call0_call0_call0_c_37 : Ref sig .tc := ⟨.hbm, 214, rfl⟩
abbrev main_call0_call0_call0_v145 : Ref sig .tc := ⟨.hbm, 215, rfl⟩
abbrev main_call0_call0_call0_v146 : Ref sig .tc := ⟨.hbm, 216, rfl⟩
abbrev main_call0_call0_call0_v147 : Ref sig .tc := ⟨.hbm, 217, rfl⟩
abbrev main_call0_call0_call0_v148 : Ref sig .tc := ⟨.hbm, 218, rfl⟩
abbrev main_call0_call0_call0_v149 : Ref sig .tc := ⟨.hbm, 219, rfl⟩
abbrev main_call0_call0_call0_c_38 : Ref sig .tc := ⟨.hbm, 220, rfl⟩
abbrev main_call0_call0_call0_v150 : Ref sig .tc := ⟨.hbm, 221, rfl⟩
abbrev main_call0_call0_call0_v151 : Ref sig .tc := ⟨.hbm, 222, rfl⟩
abbrev main_call0_call0_call0_c_39 : Ref sig .tc := ⟨.hbm, 223, rfl⟩
abbrev main_call0_call0_call0_v152 : Ref sig .tc := ⟨.hbm, 224, rfl⟩
abbrev main_call0_call0_call0_v153 : Ref sig .tc := ⟨.hbm, 225, rfl⟩
abbrev main_call0_call0_call0_v154 : Ref sig .tc := ⟨.hbm, 226, rfl⟩
abbrev main_call0_call0_call0_v155 : Ref sig .tc := ⟨.hbm, 227, rfl⟩
abbrev main_call0_call0_call0_v156 : Ref sig .tc := ⟨.hbm, 228, rfl⟩
abbrev main_call0_call0_call0_c_40 : Ref sig .tc := ⟨.hbm, 229, rfl⟩
abbrev main_call0_call0_call0_v157 : Ref sig .tc := ⟨.hbm, 230, rfl⟩
abbrev main_call0_call0_call0_v158 : Ref sig .tc := ⟨.hbm, 231, rfl⟩
abbrev main_call0_call0_call0_c_41 : Ref sig .tc := ⟨.hbm, 232, rfl⟩
abbrev main_call0_call0_call0_v159 : Ref sig .tc := ⟨.hbm, 233, rfl⟩
abbrev main_call0_call0_call0_v160 : Ref sig .tc := ⟨.hbm, 234, rfl⟩
abbrev main_call0_call0_call0_v161 : Ref sig .tc := ⟨.hbm, 235, rfl⟩
abbrev main_call0_call0_call0_v162 : Ref sig .tc := ⟨.hbm, 236, rfl⟩
abbrev main_call0_call0_call0_v163 : Ref sig .tc := ⟨.hbm, 237, rfl⟩
abbrev main_call0_call0_call0_c_42 : Ref sig .tc := ⟨.hbm, 238, rfl⟩
abbrev main_call0_call0_call0_v164 : Ref sig .tc := ⟨.hbm, 239, rfl⟩
abbrev main_call0_call0_call0_v165 : Ref sig .tc := ⟨.hbm, 240, rfl⟩
abbrev main_call0_call0_call0_c_43 : Ref sig .tc := ⟨.hbm, 241, rfl⟩
abbrev main_call0_call0_call0_v166 : Ref sig .tc := ⟨.hbm, 242, rfl⟩
abbrev main_call0_call0_call0_v167 : Ref sig .tc := ⟨.hbm, 243, rfl⟩
abbrev main_call0_call0_call0_v168 : Ref sig .tc := ⟨.hbm, 244, rfl⟩
abbrev main_call0_call0_call0_v169 : Ref sig .tc := ⟨.hbm, 245, rfl⟩
abbrev main_call0_call0_call0_v170 : Ref sig .tc := ⟨.hbm, 246, rfl⟩
abbrev main_call0_call0_v15_0 : Ref sig .tc := ⟨.hbm, 247, rfl⟩
abbrev main_call0_call0_call0_v172 : Ref sig .tc := ⟨.hbm, 248, rfl⟩
abbrev main_call0_call0_call0_v173 : Ref sig .tc := ⟨.hbm, 249, rfl⟩
abbrev main_call0_call0_call0_c_44 : Ref sig .tc := ⟨.hbm, 250, rfl⟩
abbrev main_call0_call0_call0_v174 : Ref sig .tc := ⟨.hbm, 251, rfl⟩
abbrev main_call0_call0_v15_1 : Ref sig .tc := ⟨.hbm, 252, rfl⟩
abbrev main_call0_call0_v16 : Ref sig .tc := ⟨.hbm, 253, rfl⟩
abbrev main_call0_call0_c_1 : Ref sig .tc := ⟨.hbm, 254, rfl⟩
abbrev main_call0_call0_v17 : Ref sig .tc := ⟨.hbm, 255, rfl⟩
abbrev main_call0_call0_v18 : Ref sig .tc := ⟨.hbm, 256, rfl⟩
abbrev main_call0_call0_c_2 : Ref sig .tc := ⟨.hbm, 257, rfl⟩
abbrev main_call0_call0_v19 : Ref sig .tc := ⟨.hbm, 258, rfl⟩
abbrev main_call0_call0_v20 : Ref sig .tc := ⟨.hbm, 259, rfl⟩
abbrev main_call0_call0_v21 : Ref sig .tc := ⟨.hbm, 260, rfl⟩
abbrev main_call0_call0_cst : Ref sig .tc := ⟨.hbm, 261, rfl⟩
abbrev main_call0_call0_v22 : Ref sig .tc := ⟨.hbm, 262, rfl⟩
abbrev main_call0_call0_v23 : Ref sig .tc := ⟨.hbm, 263, rfl⟩
abbrev main_call0_call0_v24 : Ref sig .tc := ⟨.hbm, 264, rfl⟩
abbrev main_call0_call0_v25 : Ref sig .tc := ⟨.hbm, 265, rfl⟩
abbrev main_call0_call0_v26 : Ref sig .tc := ⟨.hbm, 266, rfl⟩
abbrev main_call0_call0_v27 : Ref sig .tc := ⟨.hbm, 267, rfl⟩
abbrev main_call0_call0_v28 : Ref sig .tc := ⟨.hbm, 268, rfl⟩
abbrev main_call0_call0_v29 : Ref sig .tc := ⟨.hbm, 269, rfl⟩
abbrev main_call0_v0 : Ref sig .tc := ⟨.hbm, 270, rfl⟩
abbrev main_call0_v1 : Ref sig .tc := ⟨.hbm, 271, rfl⟩
abbrev main_v7 : Ref sig .tc := ⟨.hbm, 272, rfl⟩
abbrev main_v8 : Ref sig .tc := ⟨.hbm, 273, rfl⟩
abbrev main_v9 : Ref sig .tc := ⟨.hbm, 274, rfl⟩
abbrev main_v10 : Ref sig .tc := ⟨.hbm, 275, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_26 : BitVec 32 := 0#32
  let c64_i32 : BitVec 32 := 64#32
  let v32 : BitVec 32 := Scalar.addi c0_i32_26 c64_i32
  let c1_i32_27 : BitVec 32 := 1#32
  ⟨c0_i32_26, v32, c1_i32_27⟩
def k0_off1 (k0_t1 : Fin k0_t1_loop.trips) : Fin 1 → Nat :=
  let c0_i32_26 : BitVec 32 := 0#32
  let c1_i32_27 : BitVec 32 := 1#32
  let arg7 : BitVec 32 := Scf.iv c0_i32_26 c1_i32_27 k0_t1
  let c6_i32_32 : BitVec 32 := 6#32
  let v34 : BitVec 32 := Scalar.remsi arg7 c6_i32_32
  ![v34.toNat]
def k0_off2 (k0_t1 : Fin k0_t1_loop.trips) : Fin 3 → Nat :=
  let c0_i32_26 : BitVec 32 := 0#32
  let c1_i32_27 : BitVec 32 := 1#32
  let arg7 : BitVec 32 := Scf.iv c0_i32_26 c1_i32_27 k0_t1
  let c6_i32_32 : BitVec 32 := 6#32
  let v34 : BitVec 32 := Scalar.remsi arg7 c6_i32_32
  let c0_i32_34 : BitVec 32 := 0#32
  let c0_i32_35 : BitVec 32 := 0#32
  ![v34.toNat, 0, 0]
def k0_off3 (k0_t1 : Fin k0_t1_loop.trips) : Fin 2 → Nat :=
  let c0_i32_26 : BitVec 32 := 0#32
  let c1_i32_27 : BitVec 32 := 1#32
  let arg7 : BitVec 32 := Scf.iv c0_i32_26 c1_i32_27 k0_t1
  let c256_i32_33 : BitVec 32 := 256#32
  let v35 : BitVec 32 := Scalar.muli arg7 c256_i32_33
  let c0_i32_36 : BitVec 32 := 0#32
  ![v35.toNat, 0]
def k0_cond1 (k0_t1 : Fin k0_t1_loop.trips) : BitVec 1 :=
  let c0_i32_26 : BitVec 32 := 0#32
  let c1_i32_27 : BitVec 32 := 1#32
  let arg7 : BitVec 32 := Scf.iv c0_i32_26 c1_i32_27 k0_t1
  let c6_i32_37 : BitVec 32 := 6#32
  let v41 : BitVec 1 := Scalar.cmpi .sge arg7 c6_i32_37
  let v42 : BitVec 32 := Scalar.extui v41
  let c0_i32_38 : BitVec 32 := 0#32
  let v43 : BitVec 1 := Scalar.cmpi .ne v42 c0_i32_38
  v43

def k0_off4 (k0_t1 : Fin k0_t1_loop.trips) : Fin 1 → Nat :=
  let c0_i32_26 : BitVec 32 := 0#32
  let c1_i32_27 : BitVec 32 := 1#32
  let arg7 : BitVec 32 := Scf.iv c0_i32_26 c1_i32_27 k0_t1
  let c6_i32_32 : BitVec 32 := 6#32
  let v34 : BitVec 32 := Scalar.remsi arg7 c6_i32_32
  ![v34.toNat]
def k0_off5 (k0_t1 : Fin k0_t1_loop.trips) : Fin 2 → Nat :=
  let c0_i32_26 : BitVec 32 := 0#32
  let c1_i32_27 : BitVec 32 := 1#32
  let arg7 : BitVec 32 := Scf.iv c0_i32_26 c1_i32_27 k0_t1
  let c6_i32_52 : BitVec 32 := 6#32
  let v72 : BitVec 32 := Scalar.subi arg7 c6_i32_52
  let c256_i32_53 : BitVec 32 := 256#32
  let v73 : BitVec 32 := Scalar.muli v72 c256_i32_53
  let c0_i32_54 : BitVec 32 := 0#32
  ![v73.toNat, 0]
def k0_off6 (k0_t1 : Fin k0_t1_loop.trips) : Fin 3 → Nat :=
  let c0_i32_26 : BitVec 32 := 0#32
  let c1_i32_27 : BitVec 32 := 1#32
  let arg7 : BitVec 32 := Scf.iv c0_i32_26 c1_i32_27 k0_t1
  let c6_i32_32 : BitVec 32 := 6#32
  let v34 : BitVec 32 := Scalar.remsi arg7 c6_i32_32
  let c0_i32_55 : BitVec 32 := 0#32
  let c0_i32_56 : BitVec 32 := 0#32
  ![v34.toNat, 0, 0]
def k0_off7 (k0_t1 : Fin k0_t1_loop.trips) : Fin 3 → Nat :=
  let c0_i32_26 : BitVec 32 := 0#32
  let c1_i32_27 : BitVec 32 := 1#32
  let arg7 : BitVec 32 := Scf.iv c0_i32_26 c1_i32_27 k0_t1
  let c6_i32_32 : BitVec 32 := 6#32
  let v34 : BitVec 32 := Scalar.remsi arg7 c6_i32_32
  let v44 : Index := Scalar.indexCast v34
  let c0_39 : Index := 0#32
  let c0_40 : Index := 0#32
  ![v44.toNat, 0, 0]
def k0_cond2 (k0_t1 : Fin k0_t1_loop.trips) : BitVec 1 :=
  let c0_i32_26 : BitVec 32 := 0#32
  let c1_i32_27 : BitVec 32 := 1#32
  let arg7 : BitVec 32 := Scf.iv c0_i32_26 c1_i32_27 k0_t1
  let c6_i32_49 : BitVec 32 := 6#32
  let v68 : BitVec 32 := Scalar.addi arg7 c6_i32_49
  let c64_i32_50 : BitVec 32 := 64#32
  let v69 : BitVec 1 := Scalar.cmpi .slt v68 c64_i32_50
  let v70 : BitVec 32 := Scalar.extui v69
  let c0_i32_51 : BitVec 32 := 0#32
  let v71 : BitVec 1 := Scalar.cmpi .ne v70 c0_i32_51
  v71

def k0_off8 (k0_t1 : Fin k0_t1_loop.trips) : Fin 1 → Nat :=
  let c0_i32_26 : BitVec 32 := 0#32
  let c1_i32_27 : BitVec 32 := 1#32
  let arg7 : BitVec 32 := Scf.iv c0_i32_26 c1_i32_27 k0_t1
  let c6_i32_32 : BitVec 32 := 6#32
  let v34 : BitVec 32 := Scalar.remsi arg7 c6_i32_32
  ![v34.toNat]
def k0_off9 (k0_t1 : Fin k0_t1_loop.trips) : Fin 3 → Nat :=
  let c0_i32_26 : BitVec 32 := 0#32
  let c1_i32_27 : BitVec 32 := 1#32
  let arg7 : BitVec 32 := Scf.iv c0_i32_26 c1_i32_27 k0_t1
  let c6_i32_32 : BitVec 32 := 6#32
  let v34 : BitVec 32 := Scalar.remsi arg7 c6_i32_32
  let c0_i32_54 : BitVec 32 := 0#32
  let c0_i32_55 : BitVec 32 := 0#32
  ![v34.toNat, 0, 0]
def k0_off10 (k0_t1 : Fin k0_t1_loop.trips) : Fin 2 → Nat :=
  let c0_i32_26 : BitVec 32 := 0#32
  let c1_i32_27 : BitVec 32 := 1#32
  let arg7 : BitVec 32 := Scf.iv c0_i32_26 c1_i32_27 k0_t1
  let c6_i32_52 : BitVec 32 := 6#32
  let v72 : BitVec 32 := Scalar.addi arg7 c6_i32_52
  let c256_i32_53 : BitVec 32 := 256#32
  let v73 : BitVec 32 := Scalar.muli v72 c256_i32_53
  let c0_i32_56 : BitVec 32 := 0#32
  ![v73.toNat, 0]
@[reducible] def k0_t2_loop : Scf.Loop 32 :=
  let c0_i32_29 : BitVec 32 := 0#32
  let c6_i32 : BitVec 32 := 6#32
  let v33 : BitVec 32 := Scalar.addi c0_i32_29 c6_i32
  let c1_i32_30 : BitVec 32 := 1#32
  ⟨c0_i32_29, v33, c1_i32_30⟩
def k0_off11 (k0_t2 : Fin k0_t2_loop.trips) : Fin 1 → Nat :=
  let c58_i32 : BitVec 32 := 58#32
  let c0_i32_29 : BitVec 32 := 0#32
  let c1_i32_30 : BitVec 32 := 1#32
  let arg7 : BitVec 32 := Scf.iv c0_i32_29 c1_i32_30 k0_t2
  let v34 : BitVec 32 := Scalar.addi c58_i32 arg7
  let c6_i32_32 : BitVec 32 := 6#32
  let v35 : BitVec 32 := Scalar.remsi v34 c6_i32_32
  ![v35.toNat]
def k0_off12 (k0_t2 : Fin k0_t2_loop.trips) : Fin 2 → Nat :=
  let c58_i32 : BitVec 32 := 58#32
  let c0_i32_29 : BitVec 32 := 0#32
  let c1_i32_30 : BitVec 32 := 1#32
  let arg7 : BitVec 32 := Scf.iv c0_i32_29 c1_i32_30 k0_t2
  let v34 : BitVec 32 := Scalar.addi c58_i32 arg7
  let c256_i32_33 : BitVec 32 := 256#32
  let v36 : BitVec 32 := Scalar.muli v34 c256_i32_33
  let c0_i32_34 : BitVec 32 := 0#32
  ![v36.toNat, 0]
def k0_off13 (k0_t2 : Fin k0_t2_loop.trips) : Fin 3 → Nat :=
  let c58_i32 : BitVec 32 := 58#32
  let c0_i32_29 : BitVec 32 := 0#32
  let c1_i32_30 : BitVec 32 := 1#32
  let arg7 : BitVec 32 := Scf.iv c0_i32_29 c1_i32_30 k0_t2
  let v34 : BitVec 32 := Scalar.addi c58_i32 arg7
  let c6_i32_32 : BitVec 32 := 6#32
  let v35 : BitVec 32 := Scalar.remsi v34 c6_i32_32
  let c0_i32_35 : BitVec 32 := 0#32
  let c0_i32_36 : BitVec 32 := 0#32
  ![v35.toNat, 0, 0]
abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16384x4096 : Shape := ⟨2, ![16384, 4096]⟩
abbrev S_ : Shape := ⟨0, ![]⟩
abbrev S1 : Shape := ⟨1, ![1]⟩
abbrev S2 : Shape := ⟨1, ![2]⟩
abbrev S4096 : Shape := ⟨1, ![4096]⟩
abbrev S1x4096 : Shape := ⟨2, ![1, 4096]⟩

abbrev nBuf : Space → Nat
  | .hbm => 293
  | .vmem => 0
  | .smem => 0
  | _ => 0

abbrev hbmTy0_0 (i : Nat) : BufTy := match i % 128 with
  | 0 => ⟨S16384x4096, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S_, .f32⟩
  | 16 => ⟨S1, .f32⟩
  | 17 => ⟨S1, .f32⟩
  | 18 => ⟨S1, .i32⟩
  | 19 => ⟨S_, .i32⟩
  | 20 => ⟨S1, .i32⟩
  | 21 => ⟨S_, .i32⟩
  | 22 => ⟨S4096, .i64⟩
  | 23 => ⟨S_, .i64⟩
  | 24 => ⟨S4096, .i64⟩
  | 25 => ⟨S4096, .i64⟩
  | 26 => ⟨S_, .i64⟩
  | 27 => ⟨S4096, .i64⟩
  | 28 => ⟨S4096, .i64⟩
  | 29 => ⟨S4096, .i32⟩
  | 30 => ⟨S4096, .i32⟩
  | 31 => ⟨S_, .i32⟩
  | 32 => ⟨S_, .i32⟩
  | 33 => ⟨S_, .i32⟩
  | 34 => ⟨S4096, .i32⟩
  | 35 => ⟨S4096, .i32⟩
  | 36 => ⟨S4096, .i32⟩
  | 37 => ⟨S4096, .i32⟩
  | 38 => ⟨S4096, .i32⟩
  | 39 => ⟨S_, .i32⟩
  | 40 => ⟨S4096, .i32⟩
  | 41 => ⟨S4096, .i32⟩
  | 42 => ⟨S_, .i32⟩
  | 43 => ⟨S4096, .i32⟩
  | 44 => ⟨S4096, .i32⟩
  | 45 => ⟨S4096, .i32⟩
  | 46 => ⟨S4096, .i32⟩
  | 47 => ⟨S4096, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i32⟩
  | 54 => ⟨S4096, .i32⟩
  | 55 => ⟨S4096, .i32⟩
  | 56 => ⟨S4096, .i32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S4096, .i32⟩
  | 64 => ⟨S4096, .i32⟩
  | 65 => ⟨S4096, .i32⟩
  | 66 => ⟨S_, .i32⟩
  | 67 => ⟨S4096, .i32⟩
  | 68 => ⟨S4096, .i32⟩
  | 69 => ⟨S_, .i32⟩
  | 70 => ⟨S4096, .i32⟩
  | 71 => ⟨S4096, .i32⟩
  | 72 => ⟨S4096, .i32⟩
  | 73 => ⟨S4096, .i32⟩
  | 74 => ⟨S4096, .i32⟩
  | 75 => ⟨S4096, .i32⟩
  | 76 => ⟨S4096, .i32⟩
  | 77 => ⟨S4096, .i32⟩
  | 78 => ⟨S_, .i32⟩
  | 79 => ⟨S4096, .i32⟩
  | 80 => ⟨S4096, .i32⟩
  | 81 => ⟨S4096, .i32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S4096, .i32⟩
  | 89 => ⟨S4096, .i32⟩
  | 90 => ⟨S4096, .i32⟩
  | 91 => ⟨S_, .i32⟩
  | 92 => ⟨S4096, .i32⟩
  | 93 => ⟨S4096, .i32⟩
  | 94 => ⟨S_, .i32⟩
  | 95 => ⟨S4096, .i32⟩
  | 96 => ⟨S4096, .i32⟩
  | 97 => ⟨S4096, .i32⟩
  | 98 => ⟨S4096, .i32⟩
  | 99 => ⟨S4096, .i32⟩
  | 100 => ⟨S_, .i32⟩
  | 101 => ⟨S4096, .i32⟩
  | 102 => ⟨S4096, .i32⟩
  | 103 => ⟨S_, .i32⟩
  | 104 => ⟨S4096, .i32⟩
  | 105 => ⟨S4096, .i32⟩
  | 106 => ⟨S4096, .i32⟩
  | 107 => ⟨S4096, .i32⟩
  | 108 => ⟨S4096, .i32⟩
  | 109 => ⟨S_, .i32⟩
  | 110 => ⟨S4096, .i32⟩
  | 111 => ⟨S4096, .i32⟩
  | 112 => ⟨S_, .i32⟩
  | 113 => ⟨S4096, .i32⟩
  | 114 => ⟨S4096, .i32⟩
  | 115 => ⟨S4096, .i32⟩
  | 116 => ⟨S4096, .i32⟩
  | 117 => ⟨S4096, .i32⟩
  | 118 => ⟨S4096, .i32⟩
  | 119 => ⟨S4096, .i32⟩
  | 120 => ⟨S4096, .i32⟩
  | 121 => ⟨S_, .i32⟩
  | 122 => ⟨S4096, .i32⟩
  | 123 => ⟨S4096, .i32⟩
  | 124 => ⟨S4096, .i32⟩
  | 125 => ⟨S_, .i32⟩
  | 126 => ⟨S4096, .i32⟩
  | 127 => ⟨S4096, .i32⟩
  | _ => ⟨S16384x4096, .f32⟩

abbrev hbmTy0_1 (i : Nat) : BufTy := match i % 128 with
  | 0 => ⟨S_, .i32⟩
  | 1 => ⟨S4096, .i32⟩
  | 2 => ⟨S4096, .i32⟩
  | 3 => ⟨S4096, .i32⟩
  | 4 => ⟨S4096, .i32⟩
  | 5 => ⟨S4096, .i32⟩
  | 6 => ⟨S_, .i32⟩
  | 7 => ⟨S4096, .i32⟩
  | 8 => ⟨S4096, .i32⟩
  | 9 => ⟨S_, .i32⟩
  | 10 => ⟨S4096, .i32⟩
  | 11 => ⟨S4096, .i32⟩
  | 12 => ⟨S4096, .i32⟩
  | 13 => ⟨S4096, .i32⟩
  | 14 => ⟨S4096, .i32⟩
  | 15 => ⟨S_, .i32⟩
  | 16 => ⟨S4096, .i32⟩
  | 17 => ⟨S4096, .i32⟩
  | 18 => ⟨S_, .i32⟩
  | 19 => ⟨S4096, .i32⟩
  | 20 => ⟨S4096, .i32⟩
  | 21 => ⟨S4096, .i32⟩
  | 22 => ⟨S4096, .i32⟩
  | 23 => ⟨S4096, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S4096, .i32⟩
  | 31 => ⟨S4096, .i32⟩
  | 32 => ⟨S4096, .i32⟩
  | 33 => ⟨S4096, .i32⟩
  | 34 => ⟨S4096, .i32⟩
  | 35 => ⟨S4096, .i32⟩
  | 36 => ⟨S_, .i32⟩
  | 37 => ⟨S4096, .i32⟩
  | 38 => ⟨S4096, .i32⟩
  | 39 => ⟨S4096, .i32⟩
  | 40 => ⟨S_, .i32⟩
  | 41 => ⟨S4096, .i32⟩
  | 42 => ⟨S4096, .i32⟩
  | 43 => ⟨S_, .i32⟩
  | 44 => ⟨S4096, .i32⟩
  | 45 => ⟨S4096, .i32⟩
  | 46 => ⟨S4096, .i32⟩
  | 47 => ⟨S4096, .i32⟩
  | 48 => ⟨S4096, .i32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S4096, .i32⟩
  | 56 => ⟨S4096, .i32⟩
  | 57 => ⟨S4096, .i32⟩
  | 58 => ⟨S_, .i32⟩
  | 59 => ⟨S4096, .i32⟩
  | 60 => ⟨S4096, .i32⟩
  | 61 => ⟨S_, .i32⟩
  | 62 => ⟨S4096, .i32⟩
  | 63 => ⟨S4096, .i32⟩
  | 64 => ⟨S4096, .i32⟩
  | 65 => ⟨S4096, .i32⟩
  | 66 => ⟨S4096, .i32⟩
  | 67 => ⟨S_, .i32⟩
  | 68 => ⟨S4096, .i32⟩
  | 69 => ⟨S4096, .i32⟩
  | 70 => ⟨S_, .i32⟩
  | 71 => ⟨S4096, .i32⟩
  | 72 => ⟨S4096, .i32⟩
  | 73 => ⟨S4096, .i32⟩
  | 74 => ⟨S4096, .i32⟩
  | 75 => ⟨S4096, .i32⟩
  | 76 => ⟨S4096, .i32⟩
  | 77 => ⟨S4096, .i32⟩
  | 78 => ⟨S4096, .i32⟩
  | 79 => ⟨S_, .i32⟩
  | 80 => ⟨S4096, .i32⟩
  | 81 => ⟨S4096, .i32⟩
  | 82 => ⟨S4096, .i32⟩
  | 83 => ⟨S_, .i32⟩
  | 84 => ⟨S4096, .i32⟩
  | 85 => ⟨S4096, .i32⟩
  | 86 => ⟨S_, .i32⟩
  | 87 => ⟨S4096, .i32⟩
  | 88 => ⟨S4096, .i32⟩
  | 89 => ⟨S4096, .i32⟩
  | 90 => ⟨S4096, .i32⟩
  | 91 => ⟨S4096, .i32⟩
  | 92 => ⟨S_, .i32⟩
  | 93 => ⟨S4096, .i32⟩
  | 94 => ⟨S4096, .i32⟩
  | 95 => ⟨S_, .i32⟩
  | 96 => ⟨S4096, .i32⟩
  | 97 => ⟨S4096, .i32⟩
  | 98 => ⟨S4096, .i32⟩
  | 99 => ⟨S4096, .i32⟩
  | 100 => ⟨S4096, .i32⟩
  | 101 => ⟨S_, .i32⟩
  | 102 => ⟨S4096, .i32⟩
  | 103 => ⟨S4096, .i32⟩
  | 104 => ⟨S_, .i32⟩
  | 105 => ⟨S4096, .i32⟩
  | 106 => ⟨S4096, .i32⟩
  | 107 => ⟨S4096, .i32⟩
  | 108 => ⟨S4096, .i32⟩
  | 109 => ⟨S4096, .i32⟩
  | 110 => ⟨S_, .i32⟩
  | 111 => ⟨S4096, .i32⟩
  | 112 => ⟨S4096, .i32⟩
  | 113 => ⟨S_, .i32⟩
  | 114 => ⟨S4096, .i32⟩
  | 115 => ⟨S4096, .i32⟩
  | 116 => ⟨S4096, .i32⟩
  | 117 => ⟨S4096, .i32⟩
  | 118 => ⟨S4096, .i32⟩
  | 119 => ⟨S4096, .i32⟩
  | 120 => ⟨S4096, .i32⟩
  | 121 => ⟨S4096, .i32⟩
  | 122 => ⟨S_, .i32⟩
  | 123 => ⟨S4096, .i32⟩
  | 124 => ⟨S4096, .i32⟩
  | 125 => ⟨S4096, .i32⟩
  | 126 => ⟨S_, .i32⟩
  | 127 => ⟨S4096, .i32⟩
  | _ => ⟨S16384x4096, .f32⟩

abbrev hbmTy0_2 (i : Nat) : BufTy := match i % 128 with
  | 0 => ⟨S4096, .i32⟩
  | 1 => ⟨S_, .i32⟩
  | 2 => ⟨S4096, .i32⟩
  | 3 => ⟨S4096, .i32⟩
  | 4 => ⟨S4096, .f32⟩
  | 5 => ⟨S_, .f32⟩
  | 6 => ⟨S4096, .f32⟩
  | 7 => ⟨S4096, .f32⟩
  | 8 => ⟨S1, .f32⟩
  | 9 => ⟨S4096, .f32⟩
  | 10 => ⟨S4096, .f32⟩
  | 11 => ⟨S4096, .f32⟩
  | 12 => ⟨S4096, .f32⟩
  | 13 => ⟨S4096, .f32⟩
  | 14 => ⟨S4096, .f32⟩
  | 15 => ⟨S4096, .f32⟩
  | 16 => ⟨S4096, .i1⟩
  | 17 => ⟨S1x4096, .i1⟩
  | 18 => ⟨S_, .f32⟩
  | 19 => ⟨S16384x4096, .f32⟩
  | 20 => ⟨S16384x4096, .i1⟩
  | 21 => ⟨S16384x4096, .i1⟩
  | 22 => ⟨S16384x4096, .i1⟩
  | 23 => ⟨S_, .f32⟩
  | 24 => ⟨S16384x4096, .f32⟩
  | 25 => ⟨S16384x4096, .i1⟩
  | 26 => ⟨S16384x4096, .i1⟩
  | 27 => ⟨S16384x4096, .i1⟩
  | 28 => ⟨S_, .f32⟩
  | 29 => ⟨S16384x4096, .f32⟩
  | 30 => ⟨S16384x4096, .f32⟩
  | 31 => ⟨S_, .f32⟩
  | 32 => ⟨S16384x4096, .f32⟩
  | 33 => ⟨S16384x4096, .f32⟩
  | 34 => ⟨S_, .f32⟩
  | 35 => ⟨S16384x4096, .f32⟩
  | 36 => ⟨S16384x4096, .f32⟩
  | _ => ⟨S16384x4096, .f32⟩

abbrev hbmTy (i : Nat) : BufTy := match i / 128 with
  | 0 => hbmTy0_0 i
  | 1 => hbmTy0_1 i
  | 2 => hbmTy0_2 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_cst : Ref sig .tc := ⟨.hbm, 12, rfl⟩
abbrev main_call0_cst_0 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_c : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_c_0 : Ref sig .tc := ⟨.hbm, 26, rfl⟩
abbrev main_call0_call0_v11 : Ref sig .tc := ⟨.hbm, 27, rfl⟩
abbrev main_call0_call0_v12 : Ref sig .tc := ⟨.hbm, 28, rfl⟩
abbrev main_call0_call0_v13 : Ref sig .tc := ⟨.hbm, 29, rfl⟩
abbrev main_call0_call0_v14 : Ref sig .tc := ⟨.hbm, 30, rfl⟩
abbrev main_call0_call0_call0_v0 : Ref sig .tc := ⟨.hbm, 31, rfl⟩
abbrev main_call0_call0_call0_c : Ref sig .tc := ⟨.hbm, 32, rfl⟩
abbrev main_call0_call0_call0_v1 : Ref sig .tc := ⟨.hbm, 33, rfl⟩
abbrev main_call0_call0_call0_v2 : Ref sig .tc := ⟨.hbm, 34, rfl⟩
abbrev main_call0_call0_call0_v3 : Ref sig .tc := ⟨.hbm, 35, rfl⟩
abbrev main_call0_call0_call0_v4 : Ref sig .tc := ⟨.hbm, 36, rfl⟩
abbrev main_call0_call0_call0_v5 : Ref sig .tc := ⟨.hbm, 37, rfl⟩
abbrev main_call0_call0_call0_v6 : Ref sig .tc := ⟨.hbm, 38, rfl⟩
abbrev main_call0_call0_call0_c_0 : Ref sig .tc := ⟨.hbm, 39, rfl⟩
abbrev main_call0_call0_call0_v7 : Ref sig .tc := ⟨.hbm, 40, rfl⟩
abbrev main_call0_call0_call0_v8 : Ref sig .tc := ⟨.hbm, 41, rfl⟩
abbrev main_call0_call0_call0_c_1 : Ref sig .tc := ⟨.hbm, 42, rfl⟩
abbrev main_call0_call0_call0_v9 : Ref sig .tc := ⟨.hbm, 43, rfl⟩
abbrev main_call0_call0_call0_v10 : Ref sig .tc := ⟨.hbm, 44, rfl⟩
abbrev main_call0_call0_call0_v11 : Ref sig .tc := ⟨.hbm, 45, rfl⟩
abbrev main_call0_call0_call0_v12 : Ref sig .tc := ⟨.hbm, 46, rfl⟩
abbrev main_call0_call0_call0_v13 : Ref sig .tc := ⟨.hbm, 47, rfl⟩
abbrev main_call0_call0_call0_c_2 : Ref sig .tc := ⟨.hbm, 48, rfl⟩
abbrev main_call0_call0_call0_v14 : Ref sig .tc := ⟨.hbm, 49, rfl⟩
abbrev main_call0_call0_call0_v15 : Ref sig .tc := ⟨.hbm, 50, rfl⟩
abbrev main_call0_call0_call0_c_3 : Ref sig .tc := ⟨.hbm, 51, rfl⟩
abbrev main_call0_call0_call0_v16 : Ref sig .tc := ⟨.hbm, 52, rfl⟩
abbrev main_call0_call0_call0_v17 : Ref sig .tc := ⟨.hbm, 53, rfl⟩
abbrev main_call0_call0_call0_v18 : Ref sig .tc := ⟨.hbm, 54, rfl⟩
abbrev main_call0_call0_call0_v19 : Ref sig .tc := ⟨.hbm, 55, rfl⟩
abbrev main_call0_call0_call0_v20 : Ref sig .tc := ⟨.hbm, 56, rfl⟩
abbrev main_call0_call0_call0_c_4 : Ref sig .tc := ⟨.hbm, 57, rfl⟩
abbrev main_call0_call0_call0_v21 : Ref sig .tc := ⟨.hbm, 58, rfl⟩
abbrev main_call0_call0_call0_v22 : Ref sig .tc := ⟨.hbm, 59, rfl⟩
abbrev main_call0_call0_call0_c_5 : Ref sig .tc := ⟨.hbm, 60, rfl⟩
abbrev main_call0_call0_call0_v23 : Ref sig .tc := ⟨.hbm, 61, rfl⟩
abbrev main_call0_call0_call0_v24 : Ref sig .tc := ⟨.hbm, 62, rfl⟩
abbrev main_call0_call0_call0_v25 : Ref sig .tc := ⟨.hbm, 63, rfl⟩
abbrev main_call0_call0_call0_v26 : Ref sig .tc := ⟨.hbm, 64, rfl⟩
abbrev main_call0_call0_call0_v27 : Ref sig .tc := ⟨.hbm, 65, rfl⟩
abbrev main_call0_call0_call0_c_6 : Ref sig .tc := ⟨.hbm, 66, rfl⟩
abbrev main_call0_call0_call0_v28 : Ref sig .tc := ⟨.hbm, 67, rfl⟩
abbrev main_call0_call0_call0_v29 : Ref sig .tc := ⟨.hbm, 68, rfl⟩
abbrev main_call0_call0_call0_c_7 : Ref sig .tc := ⟨.hbm, 69, rfl⟩
abbrev main_call0_call0_call0_v30 : Ref sig .tc := ⟨.hbm, 70, rfl⟩
abbrev main_call0_call0_call0_v31 : Ref sig .tc := ⟨.hbm, 71, rfl⟩
abbrev main_call0_call0_call0_v32 : Ref sig .tc := ⟨.hbm, 72, rfl⟩
abbrev main_call0_call0_call0_v33 : Ref sig .tc := ⟨.hbm, 73, rfl⟩
abbrev main_call0_call0_call0_v34 : Ref sig .tc := ⟨.hbm, 74, rfl⟩
abbrev main_call0_call0_call0_v35 : Ref sig .tc := ⟨.hbm, 75, rfl⟩
abbrev main_call0_call0_call0_v36 : Ref sig .tc := ⟨.hbm, 76, rfl⟩
abbrev main_call0_call0_call0_v37 : Ref sig .tc := ⟨.hbm, 77, rfl⟩
abbrev main_call0_call0_call0_c_8 : Ref sig .tc := ⟨.hbm, 78, rfl⟩
abbrev main_call0_call0_call0_v38 : Ref sig .tc := ⟨.hbm, 79, rfl⟩
abbrev main_call0_call0_call0_v39 : Ref sig .tc := ⟨.hbm, 80, rfl⟩
abbrev main_call0_call0_call0_v40 : Ref sig .tc := ⟨.hbm, 81, rfl⟩
abbrev main_call0_call0_call0_c_9 : Ref sig .tc := ⟨.hbm, 82, rfl⟩
abbrev main_call0_call0_call0_v41 : Ref sig .tc := ⟨.hbm, 83, rfl⟩
abbrev main_call0_call0_call0_v42 : Ref sig .tc := ⟨.hbm, 84, rfl⟩
abbrev main_call0_call0_call0_c_10 : Ref sig .tc := ⟨.hbm, 85, rfl⟩
abbrev main_call0_call0_call0_v43 : Ref sig .tc := ⟨.hbm, 86, rfl⟩
abbrev main_call0_call0_call0_v44 : Ref sig .tc := ⟨.hbm, 87, rfl⟩
abbrev main_call0_call0_call0_v45 : Ref sig .tc := ⟨.hbm, 88, rfl⟩
abbrev main_call0_call0_call0_v46 : Ref sig .tc := ⟨.hbm, 89, rfl⟩
abbrev main_call0_call0_call0_v47 : Ref sig .tc := ⟨.hbm, 90, rfl⟩
abbrev main_call0_call0_call0_c_11 : Ref sig .tc := ⟨.hbm, 91, rfl⟩
abbrev main_call0_call0_call0_v48 : Ref sig .tc := ⟨.hbm, 92, rfl⟩
abbrev main_call0_call0_call0_v49 : Ref sig .tc := ⟨.hbm, 93, rfl⟩
abbrev main_call0_call0_call0_c_12 : Ref sig .tc := ⟨.hbm, 94, rfl⟩
abbrev main_call0_call0_call0_v50 : Ref sig .tc := ⟨.hbm, 95, rfl⟩
abbrev main_call0_call0_call0_v51 : Ref sig .tc := ⟨.hbm, 96, rfl⟩
abbrev main_call0_call0_call0_v52 : Ref sig .tc := ⟨.hbm, 97, rfl⟩
abbrev main_call0_call0_call0_v53 : Ref sig .tc := ⟨.hbm, 98, rfl⟩
abbrev main_call0_call0_call0_v54 : Ref sig .tc := ⟨.hbm, 99, rfl⟩
abbrev main_call0_call0_call0_c_13 : Ref sig .tc := ⟨.hbm, 100, rfl⟩
abbrev main_call0_call0_call0_v55 : Ref sig .tc := ⟨.hbm, 101, rfl⟩
abbrev main_call0_call0_call0_v56 : Ref sig .tc := ⟨.hbm, 102, rfl⟩
abbrev main_call0_call0_call0_c_14 : Ref sig .tc := ⟨.hbm, 103, rfl⟩
abbrev main_call0_call0_call0_v57 : Ref sig .tc := ⟨.hbm, 104, rfl⟩
abbrev main_call0_call0_call0_v58 : Ref sig .tc := ⟨.hbm, 105, rfl⟩
abbrev main_call0_call0_call0_v59 : Ref sig .tc := ⟨.hbm, 106, rfl⟩
abbrev main_call0_call0_call0_v60 : Ref sig .tc := ⟨.hbm, 107, rfl⟩
abbrev main_call0_call0_call0_v61 : Ref sig .tc := ⟨.hbm, 108, rfl⟩
abbrev main_call0_call0_call0_c_15 : Ref sig .tc := ⟨.hbm, 109, rfl⟩
abbrev main_call0_call0_call0_v62 : Ref sig .tc := ⟨.hbm, 110, rfl⟩
abbrev main_call0_call0_call0_v63 : Ref sig .tc := ⟨.hbm, 111, rfl⟩
abbrev main_call0_call0_call0_c_16 : Ref sig .tc := ⟨.hbm, 112, rfl⟩
abbrev main_call0_call0_call0_v64 : Ref sig .tc := ⟨.hbm, 113, rfl⟩
abbrev main_call0_call0_call0_v65 : Ref sig .tc := ⟨.hbm, 114, rfl⟩
abbrev main_call0_call0_call0_v66 : Ref sig .tc := ⟨.hbm, 115, rfl⟩
abbrev main_call0_call0_call0_v67 : Ref sig .tc := ⟨.hbm, 116, rfl⟩
abbrev main_call0_call0_call0_v68 : Ref sig .tc := ⟨.hbm, 117, rfl⟩
abbrev main_call0_call0_call0_v69 : Ref sig .tc := ⟨.hbm, 118, rfl⟩
abbrev main_call0_call0_call0_v70 : Ref sig .tc := ⟨.hbm, 119, rfl⟩
abbrev main_call0_call0_call0_v71 : Ref sig .tc := ⟨.hbm, 120, rfl⟩
abbrev main_call0_call0_call0_c_17 : Ref sig .tc := ⟨.hbm, 121, rfl⟩
abbrev main_call0_call0_call0_v72 : Ref sig .tc := ⟨.hbm, 122, rfl⟩
abbrev main_call0_call0_call0_v73 : Ref sig .tc := ⟨.hbm, 123, rfl⟩
abbrev main_call0_call0_call0_v74 : Ref sig .tc := ⟨.hbm, 124, rfl⟩
abbrev main_call0_call0_call0_c_18 : Ref sig .tc := ⟨.hbm, 125, rfl⟩
abbrev main_call0_call0_call0_v75 : Ref sig .tc := ⟨.hbm, 126, rfl⟩
abbrev main_call0_call0_call0_v76 : Ref sig .tc := ⟨.hbm, 127, rfl⟩
abbrev main_call0_call0_call0_c_19 : Ref sig .tc := ⟨.hbm, 128, rfl⟩
abbrev main_call0_call0_call0_v77 : Ref sig .tc := ⟨.hbm, 129, rfl⟩
abbrev main_call0_call0_call0_v78 : Ref sig .tc := ⟨.hbm, 130, rfl⟩
abbrev main_call0_call0_call0_v79 : Ref sig .tc := ⟨.hbm, 131, rfl⟩
abbrev main_call0_call0_call0_v80 : Ref sig .tc := ⟨.hbm, 132, rfl⟩
abbrev main_call0_call0_call0_v81 : Ref sig .tc := ⟨.hbm, 133, rfl⟩
abbrev main_call0_call0_call0_c_20 : Ref sig .tc := ⟨.hbm, 134, rfl⟩
abbrev main_call0_call0_call0_v82 : Ref sig .tc := ⟨.hbm, 135, rfl⟩
abbrev main_call0_call0_call0_v83 : Ref sig .tc := ⟨.hbm, 136, rfl⟩
abbrev main_call0_call0_call0_c_21 : Ref sig .tc := ⟨.hbm, 137, rfl⟩
abbrev main_call0_call0_call0_v84 : Ref sig .tc := ⟨.hbm, 138, rfl⟩
abbrev main_call0_call0_call0_v85 : Ref sig .tc := ⟨.hbm, 139, rfl⟩
abbrev main_call0_call0_call0_v86 : Ref sig .tc := ⟨.hbm, 140, rfl⟩
abbrev main_call0_call0_call0_v87 : Ref sig .tc := ⟨.hbm, 141, rfl⟩
abbrev main_call0_call0_call0_v88 : Ref sig .tc := ⟨.hbm, 142, rfl⟩
abbrev main_call0_call0_call0_c_22 : Ref sig .tc := ⟨.hbm, 143, rfl⟩
abbrev main_call0_call0_call0_v89 : Ref sig .tc := ⟨.hbm, 144, rfl⟩
abbrev main_call0_call0_call0_v90 : Ref sig .tc := ⟨.hbm, 145, rfl⟩
abbrev main_call0_call0_call0_c_23 : Ref sig .tc := ⟨.hbm, 146, rfl⟩
abbrev main_call0_call0_call0_v91 : Ref sig .tc := ⟨.hbm, 147, rfl⟩
abbrev main_call0_call0_call0_v92 : Ref sig .tc := ⟨.hbm, 148, rfl⟩
abbrev main_call0_call0_call0_v93 : Ref sig .tc := ⟨.hbm, 149, rfl⟩
abbrev main_call0_call0_call0_v94 : Ref sig .tc := ⟨.hbm, 150, rfl⟩
abbrev main_call0_call0_call0_v95 : Ref sig .tc := ⟨.hbm, 151, rfl⟩
abbrev main_call0_call0_call0_c_24 : Ref sig .tc := ⟨.hbm, 152, rfl⟩
abbrev main_call0_call0_call0_v96 : Ref sig .tc := ⟨.hbm, 153, rfl⟩
abbrev main_call0_call0_call0_v97 : Ref sig .tc := ⟨.hbm, 154, rfl⟩
abbrev main_call0_call0_call0_c_25 : Ref sig .tc := ⟨.hbm, 155, rfl⟩
abbrev main_call0_call0_call0_v98 : Ref sig .tc := ⟨.hbm, 156, rfl⟩
abbrev main_call0_call0_call0_v99 : Ref sig .tc := ⟨.hbm, 157, rfl⟩
abbrev main_call0_call0_call0_v100 : Ref sig .tc := ⟨.hbm, 158, rfl⟩
abbrev main_call0_call0_call0_v101 : Ref sig .tc := ⟨.hbm, 159, rfl⟩
abbrev main_call0_call0_call0_v102 : Ref sig .tc := ⟨.hbm, 160, rfl⟩
abbrev main_call0_call0_call0_v103 : Ref sig .tc := ⟨.hbm, 161, rfl⟩
abbrev main_call0_call0_call0_v104 : Ref sig .tc := ⟨.hbm, 162, rfl⟩
abbrev main_call0_call0_call0_v105 : Ref sig .tc := ⟨.hbm, 163, rfl⟩
abbrev main_call0_call0_call0_c_26 : Ref sig .tc := ⟨.hbm, 164, rfl⟩
abbrev main_call0_call0_call0_v106 : Ref sig .tc := ⟨.hbm, 165, rfl⟩
abbrev main_call0_call0_call0_v107 : Ref sig .tc := ⟨.hbm, 166, rfl⟩
abbrev main_call0_call0_call0_v108 : Ref sig .tc := ⟨.hbm, 167, rfl⟩
abbrev main_call0_call0_call0_c_27 : Ref sig .tc := ⟨.hbm, 168, rfl⟩
abbrev main_call0_call0_call0_v109 : Ref sig .tc := ⟨.hbm, 169, rfl⟩
abbrev main_call0_call0_call0_v110 : Ref sig .tc := ⟨.hbm, 170, rfl⟩
abbrev main_call0_call0_call0_c_28 : Ref sig .tc := ⟨.hbm, 171, rfl⟩
abbrev main_call0_call0_call0_v111 : Ref sig .tc := ⟨.hbm, 172, rfl⟩
abbrev main_call0_call0_call0_v112 : Ref sig .tc := ⟨.hbm, 173, rfl⟩
abbrev main_call0_call0_call0_v113 : Ref sig .tc := ⟨.hbm, 174, rfl⟩
abbrev main_call0_call0_call0_v114 : Ref sig .tc := ⟨.hbm, 175, rfl⟩
abbrev main_call0_call0_call0_v115 : Ref sig .tc := ⟨.hbm, 176, rfl⟩
abbrev main_call0_call0_call0_c_29 : Ref sig .tc := ⟨.hbm, 177, rfl⟩
abbrev main_call0_call0_call0_v116 : Ref sig .tc := ⟨.hbm, 178, rfl⟩
abbrev main_call0_call0_call0_v117 : Ref sig .tc := ⟨.hbm, 179, rfl⟩
abbrev main_call0_call0_call0_c_30 : Ref sig .tc := ⟨.hbm, 180, rfl⟩
abbrev main_call0_call0_call0_v118 : Ref sig .tc := ⟨.hbm, 181, rfl⟩
abbrev main_call0_call0_call0_v119 : Ref sig .tc := ⟨.hbm, 182, rfl⟩
abbrev main_call0_call0_call0_v120 : Ref sig .tc := ⟨.hbm, 183, rfl⟩
abbrev main_call0_call0_call0_v121 : Ref sig .tc := ⟨.hbm, 184, rfl⟩
abbrev main_call0_call0_call0_v122 : Ref sig .tc := ⟨.hbm, 185, rfl⟩
abbrev main_call0_call0_call0_c_31 : Ref sig .tc := ⟨.hbm, 186, rfl⟩
abbrev main_call0_call0_call0_v123 : Ref sig .tc := ⟨.hbm, 187, rfl⟩
abbrev main_call0_call0_call0_v124 : Ref sig .tc := ⟨.hbm, 188, rfl⟩
abbrev main_call0_call0_call0_c_32 : Ref sig .tc := ⟨.hbm, 189, rfl⟩
abbrev main_call0_call0_call0_v125 : Ref sig .tc := ⟨.hbm, 190, rfl⟩
abbrev main_call0_call0_call0_v126 : Ref sig .tc := ⟨.hbm, 191, rfl⟩
abbrev main_call0_call0_call0_v127 : Ref sig .tc := ⟨.hbm, 192, rfl⟩
abbrev main_call0_call0_call0_v128 : Ref sig .tc := ⟨.hbm, 193, rfl⟩
abbrev main_call0_call0_call0_v129 : Ref sig .tc := ⟨.hbm, 194, rfl⟩
abbrev main_call0_call0_call0_c_33 : Ref sig .tc := ⟨.hbm, 195, rfl⟩
abbrev main_call0_call0_call0_v130 : Ref sig .tc := ⟨.hbm, 196, rfl⟩
abbrev main_call0_call0_call0_v131 : Ref sig .tc := ⟨.hbm, 197, rfl⟩
abbrev main_call0_call0_call0_c_34 : Ref sig .tc := ⟨.hbm, 198, rfl⟩
abbrev main_call0_call0_call0_v132 : Ref sig .tc := ⟨.hbm, 199, rfl⟩
abbrev main_call0_call0_call0_v133 : Ref sig .tc := ⟨.hbm, 200, rfl⟩
abbrev main_call0_call0_call0_v134 : Ref sig .tc := ⟨.hbm, 201, rfl⟩
abbrev main_call0_call0_call0_v135 : Ref sig .tc := ⟨.hbm, 202, rfl⟩
abbrev main_call0_call0_call0_v136 : Ref sig .tc := ⟨.hbm, 203, rfl⟩
abbrev main_call0_call0_call0_v137 : Ref sig .tc := ⟨.hbm, 204, rfl⟩
abbrev main_call0_call0_call0_v138 : Ref sig .tc := ⟨.hbm, 205, rfl⟩
abbrev main_call0_call0_call0_v139 : Ref sig .tc := ⟨.hbm, 206, rfl⟩
abbrev main_call0_call0_call0_c_35 : Ref sig .tc := ⟨.hbm, 207, rfl⟩
abbrev main_call0_call0_call0_v140 : Ref sig .tc := ⟨.hbm, 208, rfl⟩
abbrev main_call0_call0_call0_v141 : Ref sig .tc := ⟨.hbm, 209, rfl⟩
abbrev main_call0_call0_call0_v142 : Ref sig .tc := ⟨.hbm, 210, rfl⟩
abbrev main_call0_call0_call0_c_36 : Ref sig .tc := ⟨.hbm, 211, rfl⟩
abbrev main_call0_call0_call0_v143 : Ref sig .tc := ⟨.hbm, 212, rfl⟩
abbrev main_call0_call0_call0_v144 : Ref sig .tc := ⟨.hbm, 213, rfl⟩
abbrev main_call0_call0_call0_c_37 : Ref sig .tc := ⟨.hbm, 214, rfl⟩
abbrev main_call0_call0_call0_v145 : Ref sig .tc := ⟨.hbm, 215, rfl⟩
abbrev main_call0_call0_call0_v146 : Ref sig .tc := ⟨.hbm, 216, rfl⟩
abbrev main_call0_call0_call0_v147 : Ref sig .tc := ⟨.hbm, 217, rfl⟩
abbrev main_call0_call0_call0_v148 : Ref sig .tc := ⟨.hbm, 218, rfl⟩
abbrev main_call0_call0_call0_v149 : Ref sig .tc := ⟨.hbm, 219, rfl⟩
abbrev main_call0_call0_call0_c_38 : Ref sig .tc := ⟨.hbm, 220, rfl⟩
abbrev main_call0_call0_call0_v150 : Ref sig .tc := ⟨.hbm, 221, rfl⟩
abbrev main_call0_call0_call0_v151 : Ref sig .tc := ⟨.hbm, 222, rfl⟩
abbrev main_call0_call0_call0_c_39 : Ref sig .tc := ⟨.hbm, 223, rfl⟩
abbrev main_call0_call0_call0_v152 : Ref sig .tc := ⟨.hbm, 224, rfl⟩
abbrev main_call0_call0_call0_v153 : Ref sig .tc := ⟨.hbm, 225, rfl⟩
abbrev main_call0_call0_call0_v154 : Ref sig .tc := ⟨.hbm, 226, rfl⟩
abbrev main_call0_call0_call0_v155 : Ref sig .tc := ⟨.hbm, 227, rfl⟩
abbrev main_call0_call0_call0_v156 : Ref sig .tc := ⟨.hbm, 228, rfl⟩
abbrev main_call0_call0_call0_c_40 : Ref sig .tc := ⟨.hbm, 229, rfl⟩
abbrev main_call0_call0_call0_v157 : Ref sig .tc := ⟨.hbm, 230, rfl⟩
abbrev main_call0_call0_call0_v158 : Ref sig .tc := ⟨.hbm, 231, rfl⟩
abbrev main_call0_call0_call0_c_41 : Ref sig .tc := ⟨.hbm, 232, rfl⟩
abbrev main_call0_call0_call0_v159 : Ref sig .tc := ⟨.hbm, 233, rfl⟩
abbrev main_call0_call0_call0_v160 : Ref sig .tc := ⟨.hbm, 234, rfl⟩
abbrev main_call0_call0_call0_v161 : Ref sig .tc := ⟨.hbm, 235, rfl⟩
abbrev main_call0_call0_call0_v162 : Ref sig .tc := ⟨.hbm, 236, rfl⟩
abbrev main_call0_call0_call0_v163 : Ref sig .tc := ⟨.hbm, 237, rfl⟩
abbrev main_call0_call0_call0_c_42 : Ref sig .tc := ⟨.hbm, 238, rfl⟩
abbrev main_call0_call0_call0_v164 : Ref sig .tc := ⟨.hbm, 239, rfl⟩
abbrev main_call0_call0_call0_v165 : Ref sig .tc := ⟨.hbm, 240, rfl⟩
abbrev main_call0_call0_call0_c_43 : Ref sig .tc := ⟨.hbm, 241, rfl⟩
abbrev main_call0_call0_call0_v166 : Ref sig .tc := ⟨.hbm, 242, rfl⟩
abbrev main_call0_call0_call0_v167 : Ref sig .tc := ⟨.hbm, 243, rfl⟩
abbrev main_call0_call0_call0_v168 : Ref sig .tc := ⟨.hbm, 244, rfl⟩
abbrev main_call0_call0_call0_v169 : Ref sig .tc := ⟨.hbm, 245, rfl⟩
abbrev main_call0_call0_call0_v170 : Ref sig .tc := ⟨.hbm, 246, rfl⟩
abbrev main_call0_call0_v15_0 : Ref sig .tc := ⟨.hbm, 247, rfl⟩
abbrev main_call0_call0_call0_v172 : Ref sig .tc := ⟨.hbm, 248, rfl⟩
abbrev main_call0_call0_call0_v173 : Ref sig .tc := ⟨.hbm, 249, rfl⟩
abbrev main_call0_call0_call0_c_44 : Ref sig .tc := ⟨.hbm, 250, rfl⟩
abbrev main_call0_call0_call0_v174 : Ref sig .tc := ⟨.hbm, 251, rfl⟩
abbrev main_call0_call0_v15_1 : Ref sig .tc := ⟨.hbm, 252, rfl⟩
abbrev main_call0_call0_v16 : Ref sig .tc := ⟨.hbm, 253, rfl⟩
abbrev main_call0_call0_c_1 : Ref sig .tc := ⟨.hbm, 254, rfl⟩
abbrev main_call0_call0_v17 : Ref sig .tc := ⟨.hbm, 255, rfl⟩
abbrev main_call0_call0_v18 : Ref sig .tc := ⟨.hbm, 256, rfl⟩
abbrev main_call0_call0_c_2 : Ref sig .tc := ⟨.hbm, 257, rfl⟩
abbrev main_call0_call0_v19 : Ref sig .tc := ⟨.hbm, 258, rfl⟩
abbrev main_call0_call0_v20 : Ref sig .tc := ⟨.hbm, 259, rfl⟩
abbrev main_call0_call0_v21 : Ref sig .tc := ⟨.hbm, 260, rfl⟩
abbrev main_call0_call0_cst : Ref sig .tc := ⟨.hbm, 261, rfl⟩
abbrev main_call0_call0_v22 : Ref sig .tc := ⟨.hbm, 262, rfl⟩
abbrev main_call0_call0_v23 : Ref sig .tc := ⟨.hbm, 263, rfl⟩
abbrev main_call0_call0_v24 : Ref sig .tc := ⟨.hbm, 264, rfl⟩
abbrev main_call0_call0_v25 : Ref sig .tc := ⟨.hbm, 265, rfl⟩
abbrev main_call0_call0_v26 : Ref sig .tc := ⟨.hbm, 266, rfl⟩
abbrev main_call0_call0_v27 : Ref sig .tc := ⟨.hbm, 267, rfl⟩
abbrev main_call0_call0_v28 : Ref sig .tc := ⟨.hbm, 268, rfl⟩
abbrev main_call0_call0_v29 : Ref sig .tc := ⟨.hbm, 269, rfl⟩
abbrev main_call0_v0 : Ref sig .tc := ⟨.hbm, 270, rfl⟩
abbrev main_call0_v1 : Ref sig .tc := ⟨.hbm, 271, rfl⟩
abbrev main_v7 : Ref sig .tc := ⟨.hbm, 272, rfl⟩
abbrev main_v8 : Ref sig .tc := ⟨.hbm, 273, rfl⟩
abbrev main_cst_2 : Ref sig .tc := ⟨.hbm, 274, rfl⟩
abbrev main_v9 : Ref sig .tc := ⟨.hbm, 275, rfl⟩
abbrev main_v10 : Ref sig .tc := ⟨.hbm, 276, rfl⟩
abbrev main_v11 : Ref sig .tc := ⟨.hbm, 277, rfl⟩
abbrev main_v12 : Ref sig .tc := ⟨.hbm, 278, rfl⟩
abbrev main_cst_3 : Ref sig .tc := ⟨.hbm, 279, rfl⟩
abbrev main_v13 : Ref sig .tc := ⟨.hbm, 280, rfl⟩
abbrev main_v14 : Ref sig .tc := ⟨.hbm, 281, rfl⟩
abbrev main_v15 : Ref sig .tc := ⟨.hbm, 282, rfl⟩
abbrev main_v16 : Ref sig .tc := ⟨.hbm, 283, rfl⟩
abbrev main_call1_cst : Ref sig .tc := ⟨.hbm, 284, rfl⟩
abbrev main_call1_v0 : Ref sig .tc := ⟨.hbm, 285, rfl⟩
abbrev main_v17 : Ref sig .tc := ⟨.hbm, 286, rfl⟩
abbrev main_cst_4 : Ref sig .tc := ⟨.hbm, 287, rfl⟩
abbrev main_call2_v0 : Ref sig .tc := ⟨.hbm, 288, rfl⟩
abbrev main_v18 : Ref sig .tc := ⟨.hbm, 289, rfl⟩
abbrev main_cst_5 : Ref sig .tc := ⟨.hbm, 290, rfl⟩
abbrev main_call3_v0 : Ref sig .tc := ⟨.hbm, 291, rfl⟩
abbrev main_v19 : Ref sig .tc := ⟨.hbm, 292, rfl⟩

abbrev nD : Nat := 1
abbrev τ : Topo := Topo.v7x

variable {F : FTy → Type} [FloatOps F]
-- ==== Proof.Ring.lean ====
/-
  The two rings of the kernel: names for the blocks of 256 rows of the input and of the output, for the six slots of
  each buffer and for the slots' semaphores; the resources each stands for; and what the rings hold before a trip.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Ring
public import Idealize.ShloMosaic.Lib.Tactic

@[expose] public section

noncomputable section

namespace Cert.Proof.Ring01

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the proof works in: the launch's own, beside counters for the kernel's transfers. -/
abbrev UU (nD : Nat) (τ : Topo) : Type := UR sig nD τ × Counters
local notation "𝕄" => MT nD τ sig Unit (Elt F) ℕ (UU nD τ) ℕ
abbrev 𝒱₀ : Variants := Variants.none

/-! ## Names -/

/-- The input array, the output array, and the two buffers of six slots. -/
abbrev xM : Memref sig .tc .hbm S16384x4096 .f32 := Memref.whole main_arg0
abbrev yM : Memref sig .tc .hbm S16384x4096 .f32 := Memref.whole main_v10
abbrev iM : Memref sig .tc .vmem S6x256x4096 .f32 := Memref.whole cc0_scratch0
abbrev oM : Memref sig .tc .vmem S6x256x4096 .f32 := Memref.whole cc0_scratch1

/-- Block `b` begins at row `256 b`. -/
abbrev blkOff (b : Fin 64) : Fin 2 → Nat := ![256 * b.val, 0]
theorem blkOff_inb (b : Fin 64) : ∀ a, blkOff b a + S256x4096.size a ≤ S16384x4096.size a := by
  have := b.isLt; intro a; fin_cases a
  · show 256 * b.val + 256 ≤ 16384; omega
  · show 0 + 4096 ≤ 4096; omega
/-- Slot `s` of a buffer. -/
abbrev slotOff (s : Fin 6) : Fin 3 → Nat := ![s.val, 0, 0]
theorem slotOff_inb (s : Fin 6) : ∀ a, slotOff s a + S1x256x4096.size a ≤ S6x256x4096.size a := by
  have := s.isLt; intro a; fin_cases a
  · show s.val + 1 ≤ 6; omega
  · show 0 + 256 ≤ 256; omega
  · show 0 + 4096 ≤ 4096; omega
abbrev semOff (s : Fin 6) : Fin 1 → Nat := ![s.val]
theorem semOff_inb (s : Fin 6) : ∀ a, semOff s a + S1.size a ≤ S6.size a := by
  have := s.isLt; intro a; fin_cases a; show s.val + 1 ≤ 6; omega

/-- Block `b` of an array of 16384 rows. -/
def blk (M : Memref sig .tc .hbm S16384x4096 .f32) (b : Fin 64) : Memref sig .tc .hbm S256x4096 .f32 :=
  M.slice (Rect.unit (s := S16384x4096) (blkOff b) S256x4096.size (blkOff_inb b)) (fun _ => rfl)
/-- Slot `s` of a buffer of six, as a block of 256 rows. -/
def slot (M : Memref sig .tc .vmem S6x256x4096 .f32) (s : Fin 6) : Memref sig .tc .vmem S256x4096 .f32 :=
  (M.slice (Rect.unit (s := S6x256x4096) (slotOff s) S1x256x4096.size (slotOff_inb s)) (fun _ => rfl)).squeeze S256x4096 squeezes_S1x256x4096_S256x4096
/-- Semaphore `s` of an array of six. -/
def cell (A : DmaSems sig S6) (s : Fin 6) : DmaSems sig S_ :=
  (A.slice (Rect.unit (s := S6) (semOff s) S1.size (semOff_inb s))).squeeze S_ squeezes_S1_S_

instance (s : Fin 6) : ClosedOff (slotOff s) := ⟨slotOff s, rfl⟩
instance (b : Fin 64) : ClosedOff (blkOff b) := ⟨blkOff b, rfl⟩

theorem cell_congr (A : DmaSems sig S6) {off : Fin 1 → Nat} {s : Fin 6} (e : off = semOff s) (hh) :
    (A.slice (Rect.unit (s := S6) off S1.size hh)).squeeze S_ squeezes_S1_S_ = cell A s :=
  congrArg (fun A : DmaSems sig S1 => A.squeeze S_ squeezes_S1_S_) (SemArray.slice_unit_congr _ e _ _)
theorem slot_congr (M : Memref sig .tc .vmem S6x256x4096 .f32) {off : Fin 3 → Nat} {s : Fin 6} (e : off = slotOff s) (hh hs) :
    (M.slice (Rect.unit (s := S6x256x4096) off S1x256x4096.size hh) hs).squeeze S256x4096 squeezes_S1x256x4096_S256x4096 = slot M s :=
  congrArg (fun M : Memref sig .tc .vmem S1x256x4096 .f32 => M.squeeze S256x4096 squeezes_S1x256x4096_S256x4096) (Memref.slice_unit_congr _ e _ _ _ _)
theorem blk_congr (M : Memref sig .tc .hbm S16384x4096 .f32) {off : Fin 2 → Nat} {b : Fin 64} (e : off = blkOff b) (hh hs) :
    M.slice (Rect.unit (s := S16384x4096) off S256x4096.size hh) hs = blk M b :=
  Memref.slice_unit_congr _ e _ _ _ (fun _ => rfl)

/-! ### The kernel's slices by those names: the first six transfers at literal places -/

section Canon
variable (A : DmaSems sig S6) (M : Memref sig .tc .vmem S6x256x4096 .f32) (X : Memref sig .tc .hbm S16384x4096 .f32)

@[sl_canon] theorem cellL0 (hh) : (A.slice (Rect.unit (s := S6) ![0] S1.size hh)).squeeze S_ squeezes_S1_S_ = cell A 0 := cell_congr A (by decide) _
@[sl_canon] theorem cellL1 (hh) : (A.slice (Rect.unit (s := S6) ![1] S1.size hh)).squeeze S_ squeezes_S1_S_ = cell A 1 := cell_congr A (by decide) _
@[sl_canon] theorem cellL2 (hh) : (A.slice (Rect.unit (s := S6) ![2] S1.size hh)).squeeze S_ squeezes_S1_S_ = cell A 2 := cell_congr A (by decide) _
@[sl_canon] theorem cellL3 (hh) : (A.slice (Rect.unit (s := S6) ![3] S1.size hh)).squeeze S_ squeezes_S1_S_ = cell A 3 := cell_congr A (by decide) _
@[sl_canon] theorem cellL4 (hh) : (A.slice (Rect.unit (s := S6) ![4] S1.size hh)).squeeze S_ squeezes_S1_S_ = cell A 4 := cell_congr A (by decide) _
@[sl_canon] theorem cellL5 (hh) : (A.slice (Rect.unit (s := S6) ![5] S1.size hh)).squeeze S_ squeezes_S1_S_ = cell A 5 := cell_congr A (by decide) _
@[sl_canon] theorem slotL0 (hh hs) : (M.slice (Rect.unit (s := S6x256x4096) ![0, 0, 0] S1x256x4096.size hh) hs).squeeze S256x4096 squeezes_S1x256x4096_S256x4096 = slot M 0 := slot_congr M (by decide) _ _
@[sl_canon] theorem slotL1 (hh hs) : (M.slice (Rect.unit (s := S6x256x4096) ![1, 0, 0] S1x256x4096.size hh) hs).squeeze S256x4096 squeezes_S1x256x4096_S256x4096 = slot M 1 := slot_congr M (by decide) _ _
@[sl_canon] theorem slotL2 (hh hs) : (M.slice (Rect.unit (s := S6x256x4096) ![2, 0, 0] S1x256x4096.size hh) hs).squeeze S256x4096 squeezes_S1x256x4096_S256x4096 = slot M 2 := slot_congr M (by decide) _ _
@[sl_canon] theorem slotL3 (hh hs) : (M.slice (Rect.unit (s := S6x256x4096) ![3, 0, 0] S1x256x4096.size hh) hs).squeeze S256x4096 squeezes_S1x256x4096_S256x4096 = slot M 3 := slot_congr M (by decide) _ _
@[sl_canon] theorem slotL4 (hh hs) : (M.slice (Rect.unit (s := S6x256x4096) ![4, 0, 0] S1x256x4096.size hh) hs).squeeze S256x4096 squeezes_S1x256x4096_S256x4096 = slot M 4 := slot_congr M (by decide) _ _
@[sl_canon] theorem slotL5 (hh hs) : (M.slice (Rect.unit (s := S6x256x4096) ![5, 0, 0] S1x256x4096.size hh) hs).squeeze S256x4096 squeezes_S1x256x4096_S256x4096 = slot M 5 := slot_congr M (by decide) _ _
@[sl_canon] theorem blkL0 (hh hs) : X.slice (Rect.unit (s := S16384x4096) ![0, 0] S256x4096.size hh) hs = blk X 0 := blk_congr X (by decide) _ _
@[sl_canon] theorem blkL1 (hh hs) : X.slice (Rect.unit (s := S16384x4096) ![256, 0] S256x4096.size hh) hs = blk X 1 := blk_congr X (by decide) _ _
@[sl_canon] theorem blkL2 (hh hs) : X.slice (Rect.unit (s := S16384x4096) ![512, 0] S256x4096.size hh) hs = blk X 2 := blk_congr X (by decide) _ _
@[sl_canon] theorem blkL3 (hh hs) : X.slice (Rect.unit (s := S16384x4096) ![768, 0] S256x4096.size hh) hs = blk X 3 := blk_congr X (by decide) _ _
@[sl_canon] theorem blkL4 (hh hs) : X.slice (Rect.unit (s := S16384x4096) ![1024, 0] S256x4096.size hh) hs = blk X 4 := blk_congr X (by decide) _ _
@[sl_canon] theorem blkL5 (hh hs) : X.slice (Rect.unit (s := S16384x4096) ![1280, 0] S256x4096.size hh) hs = blk X 5 := blk_congr X (by decide) _ _

/-! ### … and a trip's, at computed places -/

theorem trips1 : k0_t1_loop.trips = 64 := by decide +kernel
theorem trips2 : k0_t2_loop.trips = 6 := by decide +kernel
theorem lt64 (k : Fin k0_t1_loop.trips) : k.val < 64 := trips1 ▸ k.isLt
theorem lt6 (k : Fin k0_t2_loop.trips) : k.val < 6 := trips2 ▸ k.isLt

theorem sl_val (k : ℕ) : (Ring.sl 6 k).val = k % 6 := by simp [Ring.sl, Fin.ofNat]

theorem off5_eq : ∀ k : Fin k0_t1_loop.trips, 6 ≤ k.val → k0_off5 k = blkOff (Ring.bk 64 (k.val - 6)) := by decide +kernel
theorem cond1_iff : ∀ k : Fin k0_t1_loop.trips, k0_cond1 k = 1#1 ↔ 6 ≤ k.val := by decide +kernel
theorem cond2_iff : ∀ k : Fin k0_t1_loop.trips, k0_cond2 k = 1#1 ↔ k.val + 6 < 64 := by decide +kernel

/-- Trip `k`'s semaphores and slots are number `k % 6`. -/
@[sl_canon] theorem cellK1 (k : Fin k0_t1_loop.trips) (hh) : (A.slice (Rect.unit (s := S6) (k0_off1 k) S1.size hh)).squeeze S_ squeezes_S1_S_ = cell A (Ring.sl 6 k.val) :=
  cell_congr A (by rw [k0_off1_eq, semOff, sl_val]) _
@[sl_canon] theorem cellK4 (k : Fin k0_t1_loop.trips) (hh) : (A.slice (Rect.unit (s := S6) (k0_off4 k) S1.size hh)).squeeze S_ squeezes_S1_S_ = cell A (Ring.sl 6 k.val) :=
  cell_congr A (by rw [k0_off4_eq, semOff, sl_val]) _
@[sl_canon] theorem cellK8 (k : Fin k0_t1_loop.trips) (hh) : (A.slice (Rect.unit (s := S6) (k0_off8 k) S1.size hh)).squeeze S_ squeezes_S1_S_ = cell A (Ring.sl 6 k.val) :=
  cell_congr A (by rw [k0_off8_eq, semOff, sl_val]) _
@[sl_canon] theorem slotK2 (k : Fin k0_t1_loop.trips) (hh hs) : (M.slice (Rect.unit (s := S6x256x4096) (k0_off2 k) S1x256x4096.size hh) hs).squeeze S256x4096 squeezes_S1x256x4096_S256x4096 = slot M (Ring.sl 6 k.val) :=
  slot_congr M (by rw [k0_off2_eq, slotOff, sl_val]) _ _
@[sl_canon] theorem slotK6 (k : Fin k0_t1_loop.trips) (hh hs) : (M.slice (Rect.unit (s := S6x256x4096) (k0_off6 k) S1x256x4096.size hh) hs).squeeze S256x4096 squeezes_S1x256x4096_S256x4096 = slot M (Ring.sl 6 k.val) :=
  slot_congr M (by rw [k0_off6_eq, slotOff, sl_val]) _ _
@[sl_canon] theorem slotK9 (k : Fin k0_t1_loop.trips) (hh hs) : (M.slice (Rect.unit (s := S6x256x4096) (k0_off9 k) S1x256x4096.size hh) hs).squeeze S256x4096 squeezes_S1x256x4096_S256x4096 = slot M (Ring.sl 6 k.val) :=
  slot_congr M (by rw [k0_off9_eq, slotOff, sl_val]) _ _
/-- Trip `k` reads and sends out block `k`, waits for the sending of block `k - 6`, and asks for block `k + 6`. -/
@[sl_canon] theorem blkK3 (k : Fin k0_t1_loop.trips) (hh hs) : X.slice (Rect.unit (s := S16384x4096) (k0_off3 k) S256x4096.size hh) hs = blk X (Ring.bk 64 k.val) :=
  blk_congr X (by rw [k0_off3_eq, blkOff, Ring.bk_val (lt64 k)]) _ _
@[sl_canon] theorem blkK5 (k : Fin k0_t1_loop.trips) (h6 : 6 ≤ k.val) (hh hs) : X.slice (Rect.unit (s := S16384x4096) (k0_off5 k) S256x4096.size hh) hs = blk X (Ring.bk 64 (k.val - 6)) :=
  blk_congr X (off5_eq k h6) _ _
@[sl_canon] theorem blkK10 (k : Fin k0_t1_loop.trips) (h6 : k.val + 6 < 64) (hh hs) : X.slice (Rect.unit (s := S16384x4096) (k0_off10 k) S256x4096.size hh) hs = blk X (Ring.bk 64 (k.val + 6)) :=
  blk_congr X (by rw [k0_off10_eq, blkOff, Ring.bk_val h6, Nat.mul_add]) _ _

theorem sl_58 (j : ℕ) : (Ring.sl 6 (64 + j)).val = (j + 58) % 6 := by rw [sl_val]; omega

/-- The second loop's trip `j` waits for the sending of block `58 + j`, from slot `(64 + j) % 6`. -/
@[sl_canon] theorem cellK11 (j : Fin k0_t2_loop.trips) (hh) : (A.slice (Rect.unit (s := S6) (k0_off11 j) S1.size hh)).squeeze S_ squeezes_S1_S_ = cell A (Ring.sl 6 (64 + j.val)) :=
  cell_congr A (by rw [k0_off11_eq, semOff, sl_58]) _
@[sl_canon] theorem slotK13 (j : Fin k0_t2_loop.trips) (hh hs) : (M.slice (Rect.unit (s := S6x256x4096) (k0_off13 j) S1x256x4096.size hh) hs).squeeze S256x4096 squeezes_S1x256x4096_S256x4096 = slot M (Ring.sl 6 (64 + j.val)) :=
  slot_congr M (by rw [k0_off13_eq, slotOff, sl_58]) _ _
@[sl_canon] theorem blkK12 (j : Fin k0_t2_loop.trips) (hh hs) : X.slice (Rect.unit (s := S16384x4096) (k0_off12 j) S256x4096.size hh) hs = blk X (Ring.bk 64 (64 + j.val - 6)) :=
  blk_congr X (by have := lt6 j; rw [k0_off12_eq, blkOff, Ring.bk_val (by omega), show 64 + j.val - 6 = j.val + 58 by omega, Nat.mul_add]) _ _

end Canon

/-- A trip's load and store through the whole buffer lie on slot `k % 6`. -/
theorem off7_eq (k : Fin k0_t1_loop.trips) : k0_off7 k = slotOff (Ring.sl 6 k.val) := by rw [k0_off7_eq, slotOff, sl_val]
instance (k : Fin k0_t1_loop.trips) : ClosedOff (k0_off7 k) := ⟨slotOff (Ring.sl 6 k.val), off7_eq k⟩

/-! ## Slots and the values in them -/

/-- A place in a block of 256 rows as a place in a slot. -/
abbrev lead : S256x4096.Idx ≃ S1x256x4096.Idx := Shape.reshapeEquiv squeezes_S1x256x4096_S256x4096.numel_eq

/-- A load of slot `s` through the whole buffer reads what the slot holds. -/
theorem readAt_slot (M : Memref sig .tc .vmem S6x256x4096 .f32) {off : Fin 3 → Nat} {s : Fin 6} (e : off = slotOff s) (hh)
    (f : M.view.ty.Contents (Elt F)) :
    M.view.readAt (Elt F) (Rect.unit (s := S6x256x4096) off S1x256x4096.size hh).toLoadRect f
      = fun y => (slot M s).view.read (Elt F) f (lead.symm y) := by
  subst e; funext y
  show _ = (M.view.slice (Rect.unit (s := S6x256x4096) (slotOff s) S1x256x4096.size hh)).read (Elt F) f (lead (lead.symm y))
  rw [Equiv.apply_symm_apply]; rfl
/-- After a store to slot `s` through the whole buffer the slot holds what was stored. -/
theorem read_slot_write (M : Memref sig .tc .vmem S6x256x4096 .f32) {off : Fin 3 → Nat} {s : Fin 6} (e : off = slotOff s) (hh)
    (g : M.view.ty.Contents (Elt F)) (p : S1x256x4096.Idx → Elt F .f32) :
    (slot M s).view.read (Elt F) (View.write (Elt F) (M.access (Rect.unit (s := S6x256x4096) off S1x256x4096.size hh)) g p Finset.univ)
      = fun x => p (lead x) := by
  subst e; funext x
  show (M.view.slice (Rect.unit (s := S6x256x4096) (slotOff s) S1x256x4096.size hh)).read (Elt F) _ (lead x) = _
  exact View.read_write_of_mem _ _ (Finset.mem_univ _)

/-- THE BLOCK COMPUTED: a block of the output, from the mask row and the block of the input. -/
def outBlk (v1 : FVec F S1x4096 .f32) (u : S256x4096.Idx → Elt F .f32) : S256x4096.Idx → Elt F .f32 :=
  fun x => k0_pay1 v1 (fun y => u (lead.symm y)) (lead x)

/-! ## What the names stand for -/

section Pieces
variable (c : Dev nD)

/-- A semaphore at zero. -/
abbrev cellP (A : DmaSems sig S6) (s : Fin 6) : sProp 𝕄 := semVal ((c : Thread nD τ), SemLoc.dma (cell A s).sem) 0
/-- A slot of a buffer at contents `f`. -/
abbrev slotP (M : Memref sig .tc .vmem S6x256x4096 .f32) (s : Fin 6) (f : Buf (Elt F) ((slot M s).view.loc (c : Thread nD τ))) : sProp 𝕄 :=
  (slot M s).view.loc (c : Thread nD τ) ↦[(slot M s).view.set]{fullShare} f
/-- A block of an array at contents `f`. -/
abbrev blkP (X : Memref sig .tc .hbm S16384x4096 .f32) (b : Fin 64) (f : Buf (Elt F) ((blk X b).view.loc (c : Thread nD τ))) : sProp 𝕄 :=
  (blk X b).view.loc (c : Thread nD τ) ↦[(blk X b).view.set]{fullShare} f

variable (XA : Buf (Elt F) (xM.view.loc (c : Thread nD τ)))

/-- Block `b` of the input in its array; -/
abbrev homeP (b : Fin 64) : sProp 𝕄 := blkP c xM b XA
/-- block `b` of the input, as values. -/
abbrev xblk (b : Fin 64) : S256x4096.Idx → Elt F .f32 := (blk xM b).view.read (Elt F) XA

/-- Slot `s` of the input buffer free. -/
def freeI (s : Fin 6) : sProp 𝕄 := iprop((∃ f, slotP c iM s f) ∗ cellP c cc0_scratch2 s)
/-- Slot `s` of the input buffer being filled with block `b`: when the transfer is waited for, the slot holds the block. -/
def flyI (s : Fin 6) (b : Fin 64) : sProp 𝕄 :=
  iprop(∃ f, ⌜(slot iM s).view.read (Elt F) f = xblk c XA b⌝
    ∗ Transfers.Flight countersEmb (c : Thread nD τ) (SemLoc.dma (cell cc0_scratch2 s).sem) () 131072 iprop(slotP c iM s f ∗ homeP c XA b))

variable (Y : Fin 64 → S256x4096.Idx → Elt F .f32) (YA : Buf (Elt F) (yM.view.loc (c : Thread nD τ)))

/-- Block `b` of the output not yet written; -/
abbrev aheadP (b : Fin 64) : sProp 𝕄 := blkP c yM b YA
/-- block `b` of the output written: it reads `Y b`. -/
def doneP (b : Fin 64) : sProp 𝕄 := iprop(∃ f, ⌜(blk yM b).view.read (Elt F) f = Y b⌝ ∗ blkP c yM b f)
/-- Slot `s` of the output buffer free. -/
def freeO (s : Fin 6) : sProp 𝕄 := iprop((∃ f, slotP c oM s f) ∗ cellP c cc0_scratch3 s)
/-- Slot `s` of the output buffer being sent to block `b`: when the transfer is waited for, the block reads `Y b`. -/
def flyO (s : Fin 6) (b : Fin 64) : sProp 𝕄 :=
  iprop(∃ f g, ⌜(blk yM b).view.read (Elt F) f = Y b⌝
    ∗ Transfers.Flight countersEmb (c : Thread nD τ) (SemLoc.dma (cell cc0_scratch3 s).sem) () 131072 iprop(blkP c yM b f ∗ slotP c oM s g))

/-- The input slot of step `p`: being filled with block `p` if there is one. -/
def roleI (p : ℕ) : sProp 𝕄 := if p < 64 then flyI c XA (Ring.sl 6 p) (Ring.bk 64 p) else freeI c (Ring.sl 6 p)
/-- The output slot of step `p`: block `p - 6` being sent from it if there is one. -/
def roleO (p : ℕ) : sProp 𝕄 := if 6 ≤ p ∧ p < 70 then flyO c Y (Ring.sl 6 p) (Ring.bk 64 (p - 6)) else freeO c (Ring.sl 6 p)

/-- Six consecutive roles, and the last five of them. -/
def five (P : ℕ → sProp 𝕄) (k : ℕ) : sProp 𝕄 := iprop(P (k + 1) ∗ P (k + 2) ∗ P (k + 3) ∗ P (k + 4) ∗ P (k + 5))
def six (P : ℕ → sProp 𝕄) (k : ℕ) : sProp 𝕄 := iprop(P k ∗ five P k)

/-- The blocks not yet written before trip `k`; those written and waited for. -/
def aheadS (k : ℕ) : Finset (Fin 64) := Finset.univ.filter fun b => k ≤ b.val
def doneS (k : ℕ) : Finset (Fin 64) := Finset.univ.filter fun b => b.val + 6 < k

/-- THE RINGS BEFORE STEP `k`. -/
def rings (k : ℕ) : sProp 𝕄 :=
  iprop(six (roleI c XA) k ∗ six (roleO c Y) k ∗ bigSep (Ring.homeSet 6 k) (homeP c XA)
    ∗ bigSep (aheadS k) (aheadP c YA) ∗ bigSep (doneS k) (doneP c Y) ∗ ∃ W, owes (c : Thread nD τ) 0 W)

end Pieces

end Cert.Proof.Ring01

end
-- ==== Proof.Trip.lean ====
/-
  One trip of the first loop.
-/
module

public import proofs.«01_k».proof.Proof.Ring

@[expose] public section

noncomputable section

namespace Cert.Proof.Ring01

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Trip
variable (c : Dev nD) (XA : Buf (Elt F) (xM.view.loc (c : Thread nD τ)))
  (arg0 : Memref sig .tc .vmem S1x4096 .f32) (harg0 : arg0.IsWhole) (v1 : FVec F S1x4096 .f32)
  (YA : Buf (Elt F) (yM.view.loc (c : Thread nD τ)))

/-- The output's blocks, computed from the mask row and the input. -/
abbrev YB (b : Fin 64) : S256x4096.Idx → Elt F .f32 := outBlk v1 (xblk c XA b)

/-- The first loop's trip `k`. -/
abbrev tripG (k : Fin k0_t1_loop.trips) : Prog (TpuEff nD τ sig (Elt F) Λ₀ .tc) Unit :=
  k0_t1_body (F := F) arg0 harg0 xM (Memref.isWhole_whole _) yM (Memref.isWhole_whole _) iM (Memref.isWhole_whole _) oM (Memref.isWhole_whole _) cc0_scratch2 cc0_scratch3 v1 k ()

/-- A transfer of block `b` of the input into slot `s`, whatever the slot held. -/
theorem flyI_intro (s : Fin 6) (b : Fin 64) (f : Buf (Elt F) ((slot iM s).view.loc (c : Thread nD τ))) :
    Transfers.Flight countersEmb (c : Thread nD τ) (SemLoc.dma (cell cc0_scratch2 s).sem) () 131072
        iprop(slotP c iM s ((slot iM s).view.writes (Elt F) f [⟨Rect.whole S256x4096, ReadAs.same.apply (xblk c XA b)⟩]) ∗ homeP c XA b)
      ⊢ flyI c XA s b := by
  unfold flyI
  iintro H
  iexists ((slot iM s).view.writes (Elt F) f [⟨Rect.whole S256x4096, ReadAs.same.apply (xblk c XA b)⟩])
  isplitr; · ipureintro; exact View.read_writes_whole _ _ _
  iexact H

/-- A transfer of slot `s` of the output buffer to block `b`, the slot holding what the trip computed from an input
    slot that holds block `b`. -/
theorem flyO_intro (s : Fin 6) (b : Fin 64) {off : Fin 3 → Nat} (e : off = slotOff s) (hh)
    (f : Buf (Elt F) ((slot iM s).view.loc (c : Thread nD τ))) (hf : (slot iM s).view.read (Elt F) f = xblk c XA b)
    (g : Buf (Elt F) ((slot oM s).view.loc (c : Thread nD τ))) (g' : Buf (Elt F) ((slot oM s).view.loc (c : Thread nD τ))) :
    Transfers.Flight countersEmb (c : Thread nD τ) (SemLoc.dma (cell cc0_scratch3 s).sem) () 131072
        iprop(blkP c yM b ((blk yM b).view.writes (Elt F) YA [⟨Rect.whole S256x4096, ReadAs.same.apply ((slot oM s).view.read (Elt F)
            (View.write (Elt F) (oM.access (Rect.unit (s := S6x256x4096) off S1x256x4096.size hh)) g
              (k0_pay1 v1 (View.readAt (Elt F) iM.view (Rect.unit (s := S6x256x4096) off S1x256x4096.size hh).toLoadRect f)) Finset.univ))⟩])
          ∗ slotP c oM s g')
      ⊢ flyO c (YB c XA v1) s b := by
  unfold flyO
  have h : (blk yM b).view.read (Elt F) ((blk yM b).view.writes (Elt F) YA [⟨Rect.whole S256x4096, ReadAs.same.apply ((slot oM s).view.read (Elt F)
            (View.write (Elt F) (oM.access (Rect.unit (s := S6x256x4096) off S1x256x4096.size hh)) g
              (k0_pay1 v1 (View.readAt (Elt F) iM.view (Rect.unit (s := S6x256x4096) off S1x256x4096.size hh).toLoadRect f)) Finset.univ))⟩])
      = YB c XA v1 b := by
    refine (View.read_writes_whole (blk yM b).view YA _).trans ?_
    refine (read_slot_write oM e hh g _).trans (funext fun x => ?_)
    exact congrArg (fun u => k0_pay1 v1 u (lead x)) ((readAt_slot iM e hh f).trans (funext fun y => congrFun hf (lead.symm y)))
  iintro H
  iexists ((blk yM b).view.writes (Elt F) YA [⟨Rect.whole S256x4096, ReadAs.same.apply ((slot oM s).view.read (Elt F)
            (View.write (Elt F) (oM.access (Rect.unit (s := S6x256x4096) off S1x256x4096.size hh)) g
              (k0_pay1 v1 (View.readAt (Elt F) iM.view (Rect.unit (s := S6x256x4096) off S1x256x4096.size hh).toLoadRect f)) Finset.univ))⟩]), g'
  isplitr; · ipureintro; exact h
  iexact H

/-- What trip `k` takes from the input's blocks, and what it gives back of the output's. -/
def nextHome (k : ℕ) : sProp 𝕄 := if k + 6 < 64 then homeP c XA (Ring.bk 64 (k + 6)) else iprop(emp)
def backDone (k : ℕ) : sProp 𝕄 := if 6 ≤ k then doneP c (YB c XA v1) (Ring.bk 64 (k - 6)) else iprop(emp)

/-- ONE TRIP: the input's block `k` arrives; the sending of block `k - 6` ends if there was one; the block is computed
    and sent; block `k + 6` is asked for if there is one. -/
theorem trip (k : Fin k0_t1_loop.trips) :
    iprop(roleI c XA k.val ∗ roleO c (YB c XA v1) k.val ∗ nextHome c XA k.val ∗ aheadP c YA (Ring.bk 64 k.val) ∗ ∃ W, owes (c : Thread nD τ) 0 W)
    ⊢ wp frame (wpE (defs₀ (F := F)) 𝒱₀ (c : Thread nD τ) none) Set.univ (tripG arg0 harg0 v1 k)
        (fun _ => iprop(roleI c XA (k.val + 6) ∗ roleO c (YB c XA v1) (k.val + 6) ∗ homeP c XA (Ring.bk 64 k.val)
          ∗ backDone c XA v1 k.val ∗ ∃ W, owes (c : Thread nD τ) 0 W)) := by
  have hk := lt64 k
  have eI : roleI c XA k.val = flyI c XA (Ring.sl 6 k.val) (Ring.bk 64 k.val) := if_pos hk
  have eO' : roleO c (YB c XA v1) (k.val + 6) = flyO c (YB c XA v1) (Ring.sl 6 k.val) (Ring.bk 64 k.val) := by
    rw [roleO, if_pos (by omega), Ring.sl_add, Nat.add_sub_cancel]
  rw [eI, eO']
  unfold flyI
  by_cases h6 : 6 ≤ k.val
  · have hc1 : k0_cond1 k = 1#1 := (cond1_iff k).2 h6
    rw [show roleO c (YB c XA v1) k.val = flyO c (YB c XA v1) (Ring.sl 6 k.val) (Ring.bk 64 (k.val - 6)) from if_pos ⟨h6, by omega⟩,
      show backDone c XA v1 k.val = doneP c (YB c XA v1) (Ring.bk 64 (k.val - 6)) from if_pos h6]
    conv_lhs => unfold flyO
    by_cases h58 : k.val + 6 < 64
    · have hc2 : k0_cond2 k = 1#1 := (cond2_iff k).2 h58
      rw [show nextHome c XA k.val = homeP c XA (Ring.bk 64 (k.val + 6)) from if_pos h58,
        show roleI c XA (k.val + 6) = flyI c XA (Ring.sl 6 k.val) (Ring.bk 64 (k.val + 6)) by rw [roleI, if_pos h58, Ring.sl_add]]
      iintro ⟨⟨%f, %hf, HI⟩, ⟨%g, %gs, %hg, HO⟩, Hx, Hy, ⟨%W, HW⟩⟩
      dsimp only [tripG]
      sl_unfold [k0_t1_body]
      sl_exec
      sl_step
      isplitl [HI]; · iapply flyI_intro; iexact HI
      isplitl [HO]; · iapply (flyO_intro c XA v1 YA _ _ (off7_eq k) _ f hf); iexact HO
      isplitl [HI_src]; · iexact HI_src
      isplitl [HO_dst]
      · unfold doneP; iexists g; isplitr; · ipureintro; exact hg
        iexact HO_dst
      iexists _; iexact HW
    · have hc2 : ¬ k0_cond2 k = 1#1 := fun h => h58 ((cond2_iff k).1 h)
      rw [show nextHome c XA k.val = iprop(emp) from if_neg h58,
        show roleI c XA (k.val + 6) = freeI c (Ring.sl 6 k.val) by rw [roleI, if_neg h58, Ring.sl_add]]
      iintro ⟨⟨%f, %hf, HI⟩, ⟨%g, %gs, %hg, HO⟩, -, Hy, ⟨%W, HW⟩⟩
      dsimp only [tripG]
      sl_unfold [k0_t1_body]
      sl_exec
      sl_step
      unfold freeI
      isplitl [HI HI_dst]
      · isplitl [HI_dst]; · iexists _; iexact HI_dst
        iexact HI
      isplitl [HO]; · iapply (flyO_intro c XA v1 YA _ _ (off7_eq k) _ f hf); iexact HO
      isplitl [HI_src]; · iexact HI_src
      isplitl [HO_dst]
      · unfold doneP; iexists g; isplitr; · ipureintro; exact hg
        iexact HO_dst
      iexists _; iexact HW
  · have hc1 : ¬ k0_cond1 k = 1#1 := fun h => h6 ((cond1_iff k).1 h)
    have h58 : k.val + 6 < 64 := by omega
    have hc2 : k0_cond2 k = 1#1 := (cond2_iff k).2 h58
    rw [show roleO c (YB c XA v1) k.val = freeO c (Ring.sl 6 k.val) from if_neg (fun h => h6 h.1),
      show backDone c XA v1 k.val = iprop(emp) from if_neg h6,
      show nextHome c XA k.val = homeP c XA (Ring.bk 64 (k.val + 6)) from if_pos h58,
      show roleI c XA (k.val + 6) = flyI c XA (Ring.sl 6 k.val) (Ring.bk 64 (k.val + 6)) by rw [roleI, if_pos h58, Ring.sl_add]]
    unfold freeO
    iintro ⟨⟨%f, %hf, HI⟩, ⟨⟨%gs, HS⟩, HO⟩, Hx, Hy, ⟨%W, HW⟩⟩
    dsimp only [tripG]
    sl_unfold [k0_t1_body]
    sl_exec
    sl_step
    isplitl [HI]; · iapply flyI_intro; iexact HI
    isplitl [HO]; · iapply (flyO_intro c XA v1 YA _ _ (off7_eq k) _ f hf); iexact HO
    isplitl [HI_src]; · iexact HI_src
    isplitr; · iempintro
    iexists _; iexact HW

end Trip

end Cert.Proof.Ring01

end
-- ==== Proof.Loops.lean ====
/-
  The two loops: the rings before a trip are the rings before the next, and the second loop ends the last six sendings.
-/
module

public import proofs.«01_k».proof.Proof.Trip

@[expose] public section

noncomputable section

namespace Cert.Proof.Ring01

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## Sets of blocks from one step to the next -/

/-- The input's blocks at home before step `k` and still after it. -/
def midS (k : ℕ) : Finset (Fin 64) := Finset.univ.filter fun b => b.val < k ∨ k + 7 ≤ b.val

theorem homeSet_here {k : ℕ} (h : k + 6 < 64) : Ring.homeSet (NB := 64) 6 k = insert (Ring.bk 64 (k + 6)) (midS k) := by
  ext b; simp only [Ring.mem_homeSet, Finset.mem_insert, midS, Finset.mem_filter, Finset.mem_univ, true_and, Fin.ext_iff, Ring.bk_val h]; omega
theorem homeSet_here' {k : ℕ} (h : ¬ k + 6 < 64) : Ring.homeSet (NB := 64) 6 k = midS k := by
  ext b; have := b.isLt; simp only [Ring.mem_homeSet, midS, Finset.mem_filter, Finset.mem_univ, true_and]; omega
theorem homeSet_next {k : ℕ} (h : k < 64) : Ring.homeSet (NB := 64) 6 (k + 1) = insert (Ring.bk 64 k) (midS k) := by
  ext b; simp only [Ring.mem_homeSet, Finset.mem_insert, midS, Finset.mem_filter, Finset.mem_univ, true_and, Fin.ext_iff, Ring.bk_val h]; omega
theorem not_mem_midS {k : ℕ} (h : k < 64) : Ring.bk 64 k ∉ midS k := by
  simp only [midS, Finset.mem_filter, Finset.mem_univ, true_and, Ring.bk_val h]; omega
theorem not_mem_midS6 {k : ℕ} (h : k + 6 < 64) : Ring.bk 64 (k + 6) ∉ midS k := by
  simp only [midS, Finset.mem_filter, Finset.mem_univ, true_and, Ring.bk_val h]; omega
theorem aheadS_here {k : ℕ} (h : k < 64) : aheadS k = insert (Ring.bk 64 k) (aheadS (k + 1)) := by
  ext b; simp only [Finset.mem_insert, aheadS, Finset.mem_filter, Finset.mem_univ, true_and, Fin.ext_iff, Ring.bk_val h]; omega
theorem not_mem_aheadS {k : ℕ} (h : k < 64) : Ring.bk 64 k ∉ aheadS (k + 1) := by
  simp only [aheadS, Finset.mem_filter, Finset.mem_univ, true_and, Ring.bk_val h]; omega
theorem aheadS_last {k : ℕ} (h : 64 ≤ k) : aheadS k = ∅ := by
  ext b; have := b.isLt; simp only [aheadS, Finset.mem_filter, Finset.mem_univ, true_and, Finset.notMem_empty, iff_false]; omega
theorem doneS_next {k : ℕ} (h6 : 6 ≤ k) (h : k < 70) : doneS (k + 1) = insert (Ring.bk 64 (k - 6)) (doneS k) := by
  ext b; simp only [Finset.mem_insert, doneS, Finset.mem_filter, Finset.mem_univ, true_and, Fin.ext_iff, Ring.bk_val (show k - 6 < 64 by omega)]; omega
theorem not_mem_doneS {k : ℕ} (h6 : 6 ≤ k) (h : k < 70) : Ring.bk 64 (k - 6) ∉ doneS k := by
  simp only [doneS, Finset.mem_filter, Finset.mem_univ, true_and, Ring.bk_val (show k - 6 < 64 by omega)]; omega
theorem doneS_first {k : ℕ} (h6 : k < 7) : doneS k = ∅ := by
  ext b; simp only [doneS, Finset.mem_filter, Finset.mem_univ, true_and, Finset.notMem_empty, iff_false]; omega
theorem doneS_last {k : ℕ} (h : 70 ≤ k) : doneS k = Finset.univ := by
  ext b; have := b.isLt; simp only [doneS, Finset.mem_filter, Finset.mem_univ, true_and, iff_true]; omega

omit [FloatOps F] in
/-- Equal resources, one from the other. -/
theorem of_eq {P Q : sProp 𝕄} (e : P = Q) : P ⊢ Q := e ▸ .rfl

omit [FloatOps F] in
/-- A set's share with one more block is that block's share apart from the rest. -/
theorem sep_ins {P : Fin 64 → sProp 𝕄} {b : Fin 64} {S : Finset (Fin 64)} (h : b ∉ S) :
    bigSep (insert b S) P = iprop(P b ∗ bigSep S P) := bigSep_insert h

omit [FloatOps F] in
/-- The last five roles before a step and the next one are the six before the step after it. -/
theorem six_next (P : ℕ → sProp 𝕄) (k : ℕ) : iprop(five P k ∗ P (k + 6)) ⊢ six P (k + 1) := by
  unfold six five
  iintro ⟨⟨H1, H2, H3, H4, H5⟩, H6⟩
  isplitl [H1]; · iexact H1
  isplitl [H2]; · iexact H2
  isplitl [H3]; · iexact H3
  isplitl [H4]; · iexact H4
  isplitl [H5]; · iexact H5
  iexact H6

section Step
variable (c : Dev nD) (XA : Buf (Elt F) (xM.view.loc (c : Thread nD τ))) (v1 : FVec F S1x4096 .f32)
  (YA : Buf (Elt F) (yM.view.loc (c : Thread nD τ)))

/-- What trip `k` of the first loop leaves alone. -/
def rest (k : ℕ) : sProp 𝕄 :=
  iprop(five (roleI c XA) k ∗ five (roleO c (YB c XA v1)) k ∗ bigSep (midS k) (homeP c XA)
    ∗ bigSep (aheadS (k + 1)) (aheadP c YA) ∗ bigSep (doneS k) (doneP c (YB c XA v1)))

theorem rings_here {k : ℕ} (h : k < 64) :
    rings c XA (YB c XA v1) YA k ⊢ iprop((roleI c XA k ∗ roleO c (YB c XA v1) k ∗ nextHome c XA k ∗ aheadP c YA (Ring.bk 64 k)
      ∗ ∃ W, owes (c : Thread nD τ) 0 W) ∗ rest c XA v1 YA k) := by
  have hh : bigSep (Ring.homeSet (NB := 64) 6 k) (homeP c XA) ⊢ iprop(nextHome c XA k ∗ bigSep (midS k) (homeP c XA)) := by
    unfold nextHome
    by_cases h6 : k + 6 < 64
    · rw [homeSet_here h6, sep_ins (not_mem_midS6 h6), if_pos h6]
    · rw [homeSet_here' h6, if_neg h6]; iintro H; isplitr; · iempintro
      iexact H
  unfold rings rest six
  rw [aheadS_here h, sep_ins (not_mem_aheadS h)]
  iintro ⟨⟨HI, HI5⟩, ⟨HO, HO5⟩, Hh, ⟨Ha, Has⟩, Hd, HW⟩
  ihave Hh2 := hh $$ Hh
  icases Hh2 with ⟨Hn, Hm⟩
  isplitl [HI HO Hn Ha HW]
  · isplitl [HI]; · iexact HI
    isplitl [HO]; · iexact HO
    isplitl [Hn]; · iexact Hn
    isplitl [Ha]; · iexact Ha
    iexact HW
  isplitl [HI5]; · iexact HI5
  isplitl [HO5]; · iexact HO5
  isplitl [Hm]; · iexact Hm
  isplitl [Has]; · iexact Has
  iexact Hd

theorem rings_next {k : ℕ} (h : k < 64) :
    iprop((roleI c XA (k + 6) ∗ roleO c (YB c XA v1) (k + 6) ∗ homeP c XA (Ring.bk 64 k) ∗ backDone c XA v1 k
      ∗ ∃ W, owes (c : Thread nD τ) 0 W) ∗ rest c XA v1 YA k) ⊢ rings c XA (YB c XA v1) YA (k + 1) := by
  have hd : iprop(backDone c XA v1 k ∗ bigSep (doneS k) (doneP c (YB c XA v1))) ⊢ bigSep (doneS (k + 1)) (doneP c (YB c XA v1)) := by
    unfold backDone
    by_cases h6 : 6 ≤ k
    · rw [doneS_next h6 (by omega), sep_ins (not_mem_doneS h6 (by omega)), if_pos h6]
    · rw [doneS_first (k := k) (by omega), doneS_first (k := k + 1) (by omega), if_neg h6]; iintro ⟨-, H⟩; iexact H
  unfold rings rest
  rw [homeSet_next h, sep_ins (not_mem_midS h)]
  iintro ⟨⟨HI, HO, Hb, Hback, HW⟩, HI5, HO5, Hm, Has, Hd⟩
  isplitl [HI5 HI]; · iapply six_next; isplitl [HI5]; · iexact HI5
                      iexact HI
  isplitl [HO5 HO]; · iapply six_next; isplitl [HO5]; · iexact HO5
                      iexact HO
  isplitl [Hb Hm]; · isplitl [Hb]; · iexact Hb
                     iexact Hm
  isplitl [Has]; · iexact Has
  isplitl [Hback Hd]; · iapply hd; isplitl [Hback]; · iexact Hback
                        iexact Hd
  iexact HW

/-- What a trip of the second loop leaves alone. -/
def rest2 (k : ℕ) : sProp 𝕄 :=
  iprop(six (roleI c XA) k ∗ five (roleO c (YB c XA v1)) k ∗ bigSep (Ring.homeSet 6 k) (homeP c XA)
    ∗ bigSep (aheadS k) (aheadP c YA) ∗ bigSep (doneS k) (doneP c (YB c XA v1)))

theorem rings_here2 (k : ℕ) :
    rings c XA (YB c XA v1) YA k ⊢ iprop((roleO c (YB c XA v1) k ∗ ∃ W, owes (c : Thread nD τ) 0 W) ∗ rest2 c XA v1 YA k) := by
  unfold rings rest2
  conv_lhs => rw [show six (roleO c (YB c XA v1)) k = iprop(roleO c (YB c XA v1) k ∗ five (roleO c (YB c XA v1)) k) from rfl]
  iintro ⟨HI, ⟨HO, HO5⟩, Hh, Ha, Hd, HW⟩
  isplitl [HO HW]
  · isplitl [HO]; · iexact HO
    iexact HW
  isplitl [HI]; · iexact HI
  isplitl [HO5]; · iexact HO5
  isplitl [Hh]; · iexact Hh
  isplitl [Ha]; · iexact Ha
  iexact Hd

theorem rings_next2 {k : ℕ} (h : 64 ≤ k) (h' : k < 70) :
    iprop((roleO c (YB c XA v1) (k + 6) ∗ doneP c (YB c XA v1) (Ring.bk 64 (k - 6)) ∗ ∃ W, owes (c : Thread nD τ) 0 W)
      ∗ rest2 c XA v1 YA k) ⊢ rings c XA (YB c XA v1) YA (k + 1) := by
  have hI : roleI c XA k = roleI c XA (k + 6) := by
    unfold roleI; rw [if_neg (by omega), if_neg (by omega), Ring.sl_add]
  unfold rings rest2
  rw [aheadS_last h, aheadS_last (k := k + 1) (by omega), Ring.homeSet_last 6 k h, Ring.homeSet_last 6 (k + 1) (by omega),
    doneS_next (by omega) h', sep_ins (not_mem_doneS (by omega) h')]
  conv_lhs => rw [show six (roleI c XA) k = iprop(roleI c XA k ∗ five (roleI c XA) k) from rfl, hI]
  iintro ⟨⟨HO, Hb, HW⟩, ⟨HI, HI5⟩, HO5, Hm, Has, Hd⟩
  isplitl [HI5 HI]; · iapply six_next; isplitl [HI5]; · iexact HI5
                      iexact HI
  isplitl [HO5 HO]; · iapply six_next; isplitl [HO5]; · iexact HO5
                      iexact HO
  isplitl [Hm]; · iexact Hm
  isplitl [Has]; · iexact Has
  isplitl [Hb Hd]; · isplitl [Hb]; · iexact Hb
                     iexact Hd
  iexact HW

variable (arg0 : Memref sig .tc .vmem S1x4096 .f32) (harg0 : arg0.IsWhole)

/-- The second loop's trip `j`. -/
abbrev trip2G (j : Fin k0_t2_loop.trips) : Prog (TpuEff nD τ sig (Elt F) Λ₀ .tc) Unit :=
  k0_t2_body (F := F) arg0 harg0 xM (Memref.isWhole_whole _) yM (Memref.isWhole_whole _) iM (Memref.isWhole_whole _) oM (Memref.isWhole_whole _) cc0_scratch2 cc0_scratch3 j ()

/-- ONE TRIP of the second loop: the sending of block `58 + j` ends. -/
theorem trip2 (j : Fin k0_t2_loop.trips) :
    iprop(roleO c (YB c XA v1) (64 + j.val) ∗ ∃ W, owes (c : Thread nD τ) 0 W)
    ⊢ wp frame (wpE (defs₀ (F := F)) 𝒱₀ (c : Thread nD τ) none) Set.univ (trip2G arg0 harg0 j)
        (fun _ => iprop(roleO c (YB c XA v1) (64 + j.val + 6) ∗ doneP c (YB c XA v1) (Ring.bk 64 (64 + j.val - 6)) ∗ ∃ W, owes (c : Thread nD τ) 0 W)) := by
  have hj := lt6 j
  have e : roleO c (YB c XA v1) (64 + j.val) = flyO c (YB c XA v1) (Ring.sl 6 (64 + j.val)) (Ring.bk 64 (64 + j.val - 6)) := if_pos (by omega)
  have e' : roleO c (YB c XA v1) (64 + j.val + 6) = freeO c (Ring.sl 6 (64 + j.val)) := by rw [roleO, if_neg (by omega), Ring.sl_add]
  rw [e, e']
  unfold flyO
  iintro ⟨⟨%g, %gs, %hg, HO⟩, ⟨%W, HW⟩⟩
  dsimp only [trip2G]
  sl_unfold [k0_t2_body]
  sl_exec
  sl_step
  unfold freeO doneP
  isplitl [HO HO_src]
  · isplitl [HO_src]; · iexists _; iexact HO_src
    iexact HO
  isplitl [HO_dst]
  · iexists g; isplitr; · ipureintro; exact hg
    iexact HO_dst
  iexists _; iexact HW

/-- A trip of the first loop leads from the rings before step `k` to the rings before step `k + 1`. -/
theorem step1 (k : Fin k0_t1_loop.trips) :
    rings c XA (YB c XA v1) YA k.val
      ⊢ wp frame (wpE (defs₀ (F := F)) 𝒱₀ (c : Thread nD τ) none) Set.univ (tripG arg0 harg0 v1 k)
          (fun _ => rings c XA (YB c XA v1) YA (k.val + 1)) := by
  refine (rings_here c XA v1 YA (lt64 k)).trans ?_
  iintro ⟨H, Hr⟩
  iapply (wp_wand_r Idealize.ShloMosaic.frame (wpE (defs₀ (F := F)) 𝒱₀ (c : Thread nD τ) none) Set.univ)
  isplitl [H]
  · iapply (trip c XA arg0 harg0 v1 YA k); iexact H
  · iintro %_ H'
    iapply (rings_next c XA v1 YA (lt64 k))
    isplitl [H']; · iexact H'
    iexact Hr

/-- A trip of the second loop leads from the rings before step `64 + j` to the rings before the step after it. -/
theorem step2 (j : Fin k0_t2_loop.trips) :
    rings c XA (YB c XA v1) YA (64 + j.val)
      ⊢ wp frame (wpE (defs₀ (F := F)) 𝒱₀ (c : Thread nD τ) none) Set.univ (trip2G arg0 harg0 j)
          (fun _ => rings c XA (YB c XA v1) YA (64 + (j.val + 1))) := by
  refine (rings_here2 c XA v1 YA (64 + j.val)).trans ?_
  iintro ⟨H, Hr⟩
  iapply (wp_wand_r Idealize.ShloMosaic.frame (wpE (defs₀ (F := F)) 𝒱₀ (c : Thread nD τ) none) Set.univ)
  isplitl [H]
  · iapply (trip2 c XA v1 arg0 harg0 j); iexact H
  · iintro %_ H'
    iapply (rings_next2 c XA v1 YA (k := 64 + j.val) (by omega) (by have := lt6 j; omega))
    isplitl [H']; · iexact H'
    iexact Hr

end Step

end Cert.Proof.Ring01

end
-- ==== Proof.Body.lean ====
/-
  The body: the mask row loaded, the six input slots set filling, both loops.
-/
module

public import proofs.«01_k».proof.Proof.Loops

@[expose] public section

noncomputable section

namespace Cert.Proof.Ring01

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Body
variable (c : Dev nD) (XA : Buf (Elt F) (xM.view.loc (c : Thread nD τ))) (YA : Buf (Elt F) (yM.view.loc (c : Thread nD τ)))
  (arg0 : Memref sig .tc .vmem S1x4096 .f32) (harg0 : arg0.IsWhole)

/-- The body on a given staging buffer for the mask row. -/
abbrev bodyG : Prog (TpuEff nD τ sig (Elt F) Λ₀ .tc) PUnit :=
  cc0__ring_body arg0 harg0 xM (Memref.isWhole_whole _) yM (Memref.isWhole_whole _) iM (Memref.isWhole_whole _) oM (Memref.isWhole_whole _) cc0_scratch2 cc0_scratch3

/-- The mask row in its staging buffer; -/
abbrev maskP (g0 : Buf (Elt F) (arg0.view.loc (c : Thread nD τ))) : sProp 𝕄 := arg0.view.loc (c : Thread nD τ) ↦[arg0.view.set]{fullShare} g0
/-- as the body loads it. -/
abbrev maskRow (g0 : Buf (Elt F) (arg0.view.loc (c : Thread nD τ))) : FVec F S1x4096 .f32 :=
  shapeCast S1x4096 (arg0.view.readAt (Elt F) (Rect.unit (s := S1x4096) ![0, 0] S1x4096.size inb_S1x4096_S1x4096_0_0).toLoadRect g0) shapeCasts_S1x4096_S1x4096

/-- A slot of the input buffer free and a block of the input in its array: what asking for block `s` needs. -/
abbrev startP (s : Fin 6) (b : Fin 64) : sProp 𝕄 := iprop(freeI c s ∗ homeP c XA b)

/-- What the body is handed. -/
abbrev PRE (g0 : Buf (Elt F) (arg0.view.loc (c : Thread nD τ))) : sProp 𝕄 :=
  iprop(maskP c arg0 g0 ∗ (startP c XA 0 0 ∗ startP c XA 1 1 ∗ startP c XA 2 2 ∗ startP c XA 3 3 ∗ startP c XA 4 4 ∗ startP c XA 5 5)
    ∗ six (fun s => freeO c (Ring.sl 6 s)) 0 ∗ bigSep (Ring.homeSet 6 0) (homeP c XA)
    ∗ bigSep Finset.univ (aheadP c YA) ∗ ∃ W, owes (c : Thread nD τ) 0 W)

/-- Six things counted from zero, named. -/
theorem six_zero (P : ℕ → sProp 𝕄) : iprop(P 0 ∗ P 1 ∗ P 2 ∗ P 3 ∗ P 4 ∗ P 5) ⊢ six P 0 := .rfl

/-- A slot being filled plays the role of the step it is filled for. -/
theorem roleI_fly {p : ℕ} (h : p < 64) {s : Fin 6} {b : Fin 64} (hs : Ring.sl 6 p = s) (hb : Ring.bk 64 p = b) :
    flyI c XA s b ⊢ roleI c XA p := by
  subst hs hb; rw [roleI, if_pos h]

/-- THE BODY: from the six input slots and the six output slots free to every block of the output written. -/
theorem bodyRun (g0 : Buf (Elt F) (arg0.view.loc (c : Thread nD τ))) (Q : PUnit → sProp 𝕄) :
    iprop(PRE c XA YA arg0 g0 ∗ ((maskP c arg0 g0 ∗ rings c XA (YB c XA (maskRow c arg0 g0)) YA 70) -∗ Q ⟨⟩))
      ⊢ wp frame (wpE (defs₀ (F := F)) 𝒱₀ (c : Thread nD τ) none) Set.univ (bodyG arg0 harg0) Q := by
  unfold PRE startP freeI
  iintro ⟨⟨Hm, ⟨⟨⟨⟨%f0, HS0⟩, HC0⟩, HX0⟩, ⟨⟨⟨%f1, HS1⟩, HC1⟩, HX1⟩, ⟨⟨⟨%f2, HS2⟩, HC2⟩, HX2⟩, ⟨⟨⟨%f3, HS3⟩, HC3⟩, HX3⟩, ⟨⟨⟨%f4, HS4⟩, HC4⟩, HX4⟩, ⟨⟨⟨%f5, HS5⟩, HC5⟩, HX5⟩⟩, HO, Hh, Ha, HW⟩, Hk⟩
  icases HW with ⟨%W, HW⟩
  sl_exec
  sl_for (fun k _ => rings c XA (YB c XA (maskRow c arg0 g0)) YA k) $$ [HO Hh Ha HW HC0 HC1 HC2 HC3 HC4 HC5]
  · intro k acc; exact step1 c XA (maskRow c arg0 g0) YA arg0 harg0 k
  · unfold rings
    isplitl [HC0 HC1 HC2 HC3 HC4 HC5]
    · iapply six_zero
      isplitl [HC0]; · iapply (roleI_fly c XA (p := 0) (by decide) rfl rfl); iapply (flyI_intro c XA 0 0 f0); iexact HC0
      isplitl [HC1]; · iapply (roleI_fly c XA (p := 1) (by decide) rfl rfl); iapply (flyI_intro c XA 1 1 f1); iexact HC1
      isplitl [HC2]; · iapply (roleI_fly c XA (p := 2) (by decide) rfl rfl); iapply (flyI_intro c XA 2 2 f2); iexact HC2
      isplitl [HC3]; · iapply (roleI_fly c XA (p := 3) (by decide) rfl rfl); iapply (flyI_intro c XA 3 3 f3); iexact HC3
      isplitl [HC4]; · iapply (roleI_fly c XA (p := 4) (by decide) rfl rfl); iapply (flyI_intro c XA 4 4 f4); iexact HC4
      iapply (roleI_fly c XA (p := 5) (by decide) rfl rfl); iapply (flyI_intro c XA 5 5 f5); iexact HC5
    isplitl [HO]; · iexact HO
    isplitl [Hh]; · iexact Hh
    isplitl [Ha]; · irw [show aheadS 0 = Finset.univ from Finset.filter_true_of_mem fun b _ => Nat.zero_le _]; iexact Ha
    isplitr; · irw [doneS_first (k := 0) (by omega)]; iempintro
    iexists _; iexact HW
  iintro %_ HR
  ihave HR := (of_eq (congrArg (rings c XA (YB c XA (maskRow c arg0 g0)) YA) trips1)) $$ HR
  sl_for (fun j _ => rings c XA (YB c XA (maskRow c arg0 g0)) YA (64 + j)) $$ [HR]
  · intro k acc; exact step2 c XA (maskRow c arg0 g0) YA arg0 harg0 k
  · iexact HR
  iintro %_ HR
  ihave HR := (of_eq (congrArg (fun j => rings c XA (YB c XA (maskRow c arg0 g0)) YA (64 + j)) trips2)) $$ HR
  sl_step
  iapply Hk
  isplitl [Hm]; · iexact Hm
  iexact HR

end Body

end Cert.Proof.Ring01

end
-- ==== Proof.Pieces.lean ====
/-
  The arrays as their 64 blocks, the buffers as their six slots, and the block computed read at a point.
-/
module

public import proofs.«01_k».proof.Proof.Body
public import Idealize.ShloMosaic.Lib.Pipeline.FrameValue
public import Idealize.ShloMosaic.Lib.Pipeline.Value
public import proofs.«01_k».proof.Proof.Gen.Kernel.Frame

@[expose] public section

noncomputable section

namespace Cert.Proof.Ring01

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## One element of the result -/

/-- The row's place above column `j`. -/
abbrev rowIdx (j : Fin 4096) : S1x4096.Idx := fun a => match a with | ⟨0, _⟩ => (⟨0, by decide⟩ : Fin 1) | ⟨1, _⟩ => j
/-- A block's column. -/
abbrev colB (x : S256x4096.Idx) : Fin 4096 := x 1
/-- The array's column. -/
abbrev colA (y : S16384x4096.Idx) : Fin 4096 := y 1

/-- One element of the result, from the row's element above it and the input's element: past a half in the row, whether
    the input is above zero; else the larger of the input and zero. -/
def point (w x : F .f32) : F .f32 :=
  Scalar.select (FloatOps.cmpf .ogt w (Scalar.ofBits .f32 0x3F000000#32))
    (FloatOps.sitofp .f32 ((FloatOps.cmpf .ogt x (Scalar.ofBits .f32 0x00000000#32)).setWidth 32))
    (FloatOps.maximumf x (Scalar.ofBits .f32 0x00000000#32))

/-- Recasting a block to a slot's shape and reading it at a block's place reads the block there. -/
theorem cast_lead {α : Type} (v : S256x4096.Idx → α) (h : S256x4096.ShapeCasts S1x256x4096) (x : S256x4096.Idx) :
    shapeCast S1x256x4096 v h (lead x) = v x := by
  unfold shapeCast lead
  exact congrArg v ((Shape.reshapeEquiv_reshapeEquiv _ _ x).trans (Shape.reshapeEquiv_self _ x))
theorem cast_unlead {α : Type} (u : S256x4096.Idx → α) (h : S1x256x4096.ShapeCasts S256x4096) (x : S256x4096.Idx) :
    shapeCast S256x4096 (fun y => u (lead.symm y)) h x = u x := by
  unfold shapeCast
  exact congrArg u (lead.symm_apply_apply x)

/-- A block's element as computed is the one element of the result. -/
theorem outBlk_apply (v1 : FVec F S1x4096 .f32) (u : S256x4096.Idx → Elt F .f32) (x : S256x4096.Idx) :
    outBlk v1 u x = point (v1 (rowIdx (colB x))) (u x) := by
  have e : broadcastTo S256x4096 (shapeCast S1x4096 (cmpf .ogt v1 (broadcast S1x4096 (Scalar.ofBits .f32 0x3F000000#32))) shapeCasts_S1x4096_S1x4096)
        broadcasts_S1x4096_S256x4096 x
      = FloatOps.cmpf .ogt (v1 (rowIdx (colB x))) (Scalar.ofBits .f32 0x3F000000#32) := by
    rw [shapeCast_self]
    exact congrArg (fun i => FloatOps.cmpf .ogt (v1 i) (Scalar.ofBits .f32 0x3F000000#32)) (funext fun a => match a with
      | ⟨0, _⟩ => rfl
      | ⟨1, _⟩ => rfl)
  have h0 : outBlk v1 u x = shapeCast S1x256x4096 (select
      (broadcastTo S256x4096 (shapeCast S1x4096 (cmpf .ogt v1 (broadcast S1x4096 (Scalar.ofBits .f32 0x3F000000#32))) shapeCasts_S1x4096_S1x4096)
        broadcasts_S1x4096_S256x4096)
      (sitofp .f32 (extui 32 (cmpf .ogt (shapeCast S256x4096 (fun y => u (lead.symm y)) shapeCasts_S1x256x4096_S256x4096)
        (broadcast S256x4096 (Scalar.ofBits .f32 0x00000000#32))) natLt_1_32))
      (maximumf (shapeCast S256x4096 (fun y => u (lead.symm y)) shapeCasts_S1x256x4096_S256x4096) (broadcast S256x4096 (Scalar.ofBits .f32 0x00000000#32))))
      shapeCasts_S256x4096_S1x256x4096 (lead x) := rfl
  refine (h0.trans (cast_lead _ _ x)).trans ?_
  unfold point
  refine (congrArg₂ (fun b v => Scalar.select b (FloatOps.sitofp .f32 ((FloatOps.cmpf .ogt v (Scalar.ofBits .f32 0x00000000#32)).setWidth 32))
    (FloatOps.maximumf v (Scalar.ofBits .f32 0x00000000#32))) e (cast_unlead u shapeCasts_S1x256x4096_S256x4096 x))

/-- THE WHOLE RESULT, from the row and the input. -/
def outFull (w : S1x4096.Idx → F .f32) (X : S16384x4096.Idx → F .f32) : S16384x4096.Idx → F .f32 :=
  fun y => point (w (rowIdx (colA y))) (X y)

section Blocks
variable (c : Dev nD)

/-! ## The arrays' blocks and the buffers' slots, as sets of places -/

abbrev setB (b : Fin 64) : Finset S16384x4096.Idx := (Rect.unit (s := S16384x4096) (blkOff b) S256x4096.size (blkOff_inb b)).set
abbrev setS (s : Fin 6) : Finset S6x256x4096.Idx := (Rect.unit (s := S6x256x4096) (slotOff s) S1x256x4096.size (slotOff_inb s)).set

theorem x_set (b : Fin 64) : (blk xM b).view.set = setB b := View.set_slice_whole _ _
theorem y_set (b : Fin 64) : (blk yM b).view.set = setB b := View.set_slice_whole _ _
theorem i_set (s : Fin 6) : (slot iM s).view.set = setS s := (View.set_reshape _ _).trans (View.set_slice_whole _ _)
theorem o_set (s : Fin 6) : (slot oM s).view.set = setS s := (View.set_reshape _ _).trans (View.set_slice_whole _ _)

theorem mem_setB (b : Fin 64) (y : S16384x4096.Idx) : y ∈ setB b ↔ (y 0).val / 256 = b.val := by
  rw [Rect.mem_set_unit]
  have h1 : (y 1).val < 4096 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 4096; omega
theorem mem_setS (s : Fin 6) (y : S6x256x4096.Idx) : y ∈ setS s ↔ (y 0).val = s.val := by
  rw [Rect.mem_set_unit]
  have h1 : (y 1).val < 256 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 4096; omega
theorem setB_disjoint : ∀ b b' : Fin 64, b ≠ b' → Disjoint (setB b) (setB b') := by
  intro b b' hne; rw [Finset.disjoint_left]; intro y hy hy'; rw [mem_setB] at hy hy'; exact hne (Fin.ext (hy.symm.trans hy'))
theorem setB_cover : (Finset.univ : Finset (Fin 64)).biUnion setB = Finset.univ := by
  ext y; simp only [Finset.mem_biUnion, Finset.mem_univ, true_and, iff_true]
  have h0 : (y 0).val < 16384 := (y 0).isLt
  exact ⟨⟨(y 0).val / 256, by omega⟩, by rw [mem_setB]⟩
theorem setS_disjoint : ∀ s s' : Fin 6, s ≠ s' → Disjoint (setS s) (setS s') := by
  intro s s' hne; rw [Finset.disjoint_left]; intro y hy hy'; rw [mem_setS] at hy hy'; exact hne (Fin.ext (hy.symm.trans hy'))
theorem setS_cover : (Finset.univ : Finset (Fin 6)).biUnion setS = Finset.univ := by
  ext y; simp only [Finset.mem_biUnion, Finset.mem_univ, true_and, iff_true]; exact ⟨(y 0).cast (by decide), by rw [mem_setS]; rfl⟩

/-- The input whole is its 64 blocks in their array; -/
theorem x_eq (XA : Buf (Elt F) (xM.view.loc (c : Thread nD τ))) :
    (((c : Thread nD τ).loc main_arg0) ↦{fullShare} XA : sProp 𝕄) = bigSep Finset.univ (homeP c XA) := by
  rw [Ring.pointsTo_blocks (ℓ := (c : Thread nD τ).loc main_arg0) setB setB_disjoint setB_cover]
  exact bigSep_congr fun b _ => by rw [← x_set]; rfl
/-- the output whole is its 64 blocks. -/
theorem y_eq (YA : Buf (Elt F) (yM.view.loc (c : Thread nD τ))) :
    (((c : Thread nD τ).loc main_v10) ↦{fullShare} YA : sProp 𝕄) = bigSep Finset.univ (aheadP c YA) := by
  rw [Ring.pointsTo_blocks (ℓ := (c : Thread nD τ).loc main_v10) setB setB_disjoint setB_cover]
  exact bigSep_congr fun b _ => by rw [← y_set]; rfl

/-- A block of the whole result reads as the block computed. -/
theorem read_outFull (w : FVec F S1x4096 .f32) (XA : Buf (Elt F) (xM.view.loc (c : Thread nD τ))) (b : Fin 64) :
    (blk yM b).view.read (Elt F) (outFull w XA) = YB c XA w b := by
  funext x
  refine Eq.trans ?_ (outBlk_apply w (xblk c XA b) x).symm
  have hcol : colA ((blk yM b).view.emb x) = colB x := Fin.ext (by
    show 0 + 1 * (x 1).val = (x 1).val; omega)
  show point (w (rowIdx (colA ((blk yM b).view.emb x)))) (XA ((blk yM b).view.emb x)) = _
  rw [hcol]; rfl

/-- A block of the output that reads as computed is that block of the whole result. -/
theorem done_full (w : FVec F S1x4096 .f32) (XA : Buf (Elt F) (xM.view.loc (c : Thread nD τ))) (b : Fin 64) :
    doneP c (YB c XA w) b ⊢ (aheadP c (outFull w XA) b : sProp 𝕄) := by
  unfold doneP
  iintro ⟨%f, %hf, H⟩
  iapply (of_eq (show (blkP c yM b f : sProp 𝕄) = aheadP c (outFull w XA) b from pointsTo_congr fun y hy => by
    obtain ⟨x, -, rfl⟩ := Finset.mem_map.mp hy
    exact congrFun (hf.trans (read_outFull c w XA b).symm) x))
  iexact H

/-- A buffer whole is its six slots, each at some contents, -/
theorem i_split (f : Buf (Elt F) ((c : Thread nD τ).loc cc0_scratch0)) :
    (((c : Thread nD τ).loc cc0_scratch0) ↦{fullShare} f : sProp 𝕄) ⊢ bigSep Finset.univ (fun s => iprop(∃ f, slotP c iM s f)) := by
  rw [Ring.pointsTo_blocks (ℓ := (c : Thread nD τ).loc cc0_scratch0) setS setS_disjoint setS_cover]
  refine bigSep_mono fun s _ => show (_ : sProp 𝕄) ⊢ iprop(∃ f, slotP c iM s f) from ?_
  rw [← i_set]; iintro H; iexists f; iexact H
theorem o_split (f : Buf (Elt F) ((c : Thread nD τ).loc cc0_scratch1)) :
    (((c : Thread nD τ).loc cc0_scratch1) ↦{fullShare} f : sProp 𝕄) ⊢ bigSep Finset.univ (fun s => iprop(∃ f, slotP c oM s f)) := by
  rw [Ring.pointsTo_blocks (ℓ := (c : Thread nD τ).loc cc0_scratch1) setS setS_disjoint setS_cover]
  refine bigSep_mono fun s _ => show (_ : sProp 𝕄) ⊢ iprop(∃ f, slotP c oM s f) from ?_
  rw [← o_set]; iintro H; iexists f; iexact H
/-- and back. -/
theorem i_join : bigSep Finset.univ (fun s => iprop(∃ f, slotP c iM s f))
    ⊢ (iprop(∃ f : Buf (Elt F) ((c : Thread nD τ).loc cc0_scratch0), ((c : Thread nD τ).loc cc0_scratch0) ↦{fullShare} f) : sProp 𝕄) := by
  refine BIBase.Entails.trans (bigSep_mono fun s _ => ?_) (Ring.pointsTo_blocks_join_exists (ℓ := (c : Thread nD τ).loc cc0_scratch0) setS setS_disjoint setS_cover
    (Classical.arbitrary _))
  rw [← i_set]; exact (.rfl : iprop(∃ f, slotP c iM s f) ⊢ (_ : sProp 𝕄))
theorem o_join : bigSep Finset.univ (fun s => iprop(∃ f, slotP c oM s f))
    ⊢ (iprop(∃ f : Buf (Elt F) ((c : Thread nD τ).loc cc0_scratch1), ((c : Thread nD τ).loc cc0_scratch1) ↦{fullShare} f) : sProp 𝕄) := by
  refine BIBase.Entails.trans (bigSep_mono fun s _ => ?_) (Ring.pointsTo_blocks_join_exists (ℓ := (c : Thread nD τ).loc cc0_scratch1) setS setS_disjoint setS_cover
    (Classical.arbitrary _))
  rw [← o_set]; exact (.rfl : iprop(∃ f, slotP c oM s f) ⊢ (_ : sProp 𝕄))

end Blocks

end Cert.Proof.Ring01

end
-- ==== Proof.Launch.lean ====
/-
  The launch: what the run of the program leaves in its result and its argument, at any float values.
-/
module

public import proofs.«01_k».proof.Proof.Pieces
public import proofs.«01_k».proof.Proof.Gen.Kernel.Points

@[expose] public section

noncomputable section

namespace Cert.Proof.Ring01

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## The kernel's own semaphores -/

/-- The twelve semaphores: six of the input slots, six of the output slots. -/
abbrev osem : Fin 6 ⊕ Fin 6 → SemLoc sig :=
  Sum.elim (fun s => .dma (cell cc0_scratch2 s).sem) (fun s => .dma (cell cc0_scratch3 s).sem)
theorem ownSemFacts : Pipeline.OwnSemFacts spec0 osem := by decide

/-- All twelve at zero are the input slots' and the output slots'. -/
theorem ownSems0_eq (c : Dev nD) : (Pipeline.ownSems0 (Ix := Unit) (Name := ℕ) (U := UU nD τ) (Lvl := ℕ) (Val := Elt F) (τ := τ) osem c : sProp 𝕄)
    = iprop(bigSep Finset.univ (cellP c cc0_scratch2) ∗ bigSep Finset.univ (cellP c cc0_scratch3)) := by
  unfold Pipeline.ownSems0; rw [bigSep_univ_sum]; rfl

/-! ## Sixes -/

omit [FloatOps F] in
/-- Six slots, listed. -/
theorem six_all (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

omit [FloatOps F] in
/-- Six roles before the first step are the six slots. -/
theorem six_start (Φ : Fin 6 → sProp 𝕄) : bigSep Finset.univ Φ = six (fun s => Φ (Ring.sl 6 s)) 0 := six_all Φ

omit [FloatOps F] in
/-- Six roles after the last step are the six slots. -/
theorem six_end (Φ : Fin 6 → sProp 𝕄) (P : ℕ → sProp 𝕄) (h : ∀ i, 70 ≤ i → P i = Φ (Ring.sl 6 i)) : six P 70 = bigSep Finset.univ Φ := by
  unfold six five
  rw [h 70 (by omega), h (70 + 1) (by omega), h (70 + 2) (by omega), h (70 + 3) (by omega), h (70 + 4) (by omega), h (70 + 5) (by omega),
    bigSep_univ_eq_bigSepL [(4 : Fin 6), 5, 0, 1, 2, 3] (by decide) (by decide) Φ]
  rfl

/-- The input's blocks at home: the first six apart from the rest. -/
theorem homes_zero (c : Dev nD) (XA : Buf (Elt F) (xM.view.loc (c : Thread nD τ))) :
    bigSep Finset.univ (homeP c XA) = iprop(homeP c XA 0 ∗ homeP c XA 1 ∗ homeP c XA 2 ∗ homeP c XA 3 ∗ homeP c XA 4 ∗ homeP c XA 5
      ∗ bigSep (Ring.homeSet 6 0) (homeP c XA)) := by
  have e : (Finset.univ : Finset (Fin 64)) = insert 0 (insert 1 (insert 2 (insert 3 (insert 4 (insert 5 (Ring.homeSet (NB := 64) 6 0)))))) := by
    ext b; simp only [Finset.mem_univ, Finset.mem_insert, Ring.mem_homeSet, true_iff, Fin.ext_iff]
    have := b.isLt; show b.val = 0 ∨ b.val = 1 ∨ b.val = 2 ∨ b.val = 3 ∨ b.val = 4 ∨ b.val = 5 ∨ _; omega
  rw [e, bigSep_insert (by decide), bigSep_insert (by decide), bigSep_insert (by decide), bigSep_insert (by decide), bigSep_insert (by decide),
    bigSep_insert (by decide)]; rfl

/-! ## What the body keeps between its start and its end -/

/-- The buffers the kernel reads by itself, and writes by itself. -/
abbrev HR : Finset (Ref sig .tc) := {main_arg0}
abbrev WR : Finset (Ref sig .tc) := {main_v10}
/-- The row the mask array holds when the kernel is entered, -/
abbrev rowOf (c : Dev nD) : FVec F S1x4096 .f32 := V m c main_v9
/-- and the whole result. -/
abbrev resOf (c : Dev nD) : Buf (Elt F) ((c : Thread nD τ).loc main_v10) := outFull (rowOf m c) (V m c main_arg0)
/-- The buffers' contents after the kernel. -/
def Gv (c : Dev nD) (b : Ref sig .tc) : Buf (Elt F) ((c : Thread nD τ).loc b) := Function.update (V m c) main_v10 (resOf m c) b
theorem Gv_res (c : Dev nD) : Gv m c main_v10 = resOf m c := Function.update_self ..

/-- What the body keeps, opened into slots, cells and blocks, -/
theorem keep_open (c : Dev nD) (W : (c : Dev nD) → (b : Ref sig .tc) → Buf (Elt F) ((c : Thread nD τ).loc b)) :
    (Pipeline.ΦDRG osem spec0 HR WR (V m) W c : sProp 𝕄) ⊢ iprop(bigSep Finset.univ (freeI c) ∗ bigSep Finset.univ (freeO c)
      ∗ bigSep Finset.univ (homeP c (V m c main_arg0)) ∗ bigSep Finset.univ (aheadP c (W c main_v10)) ∗ ∃ r, prngReg c r) := by
  rw [Pipeline.ΦDRG_eq, scopedRest0_eq, ownSems0_eq, bigSep_singleton, Pipeline.routed_singleton]
  rw [show bigSep Finset.univ (freeI c) = iprop(bigSep Finset.univ (fun s => iprop(∃ f, slotP c iM s f)) ∗ bigSep Finset.univ (cellP c cc0_scratch2)) from bigSep_sep _ _ _,
    show bigSep Finset.univ (freeO c) = iprop(bigSep Finset.univ (fun s => iprop(∃ f, slotP c oM s f)) ∗ bigSep Finset.univ (cellP c cc0_scratch3)) from bigSep_sep _ _ _,
    ← x_eq, ← y_eq]
  iintro ⟨⟨⟨%fi, Hi⟩, ⟨%fo, Ho⟩⟩, Hp, ⟨Hci, Hco⟩, Hx, Hy⟩
  isplitl [Hi Hci]
  · isplitl [Hi]; · iapply (i_split c fi); iexact Hi
    iexact Hci
  isplitl [Ho Hco]
  · isplitl [Ho]; · iapply (o_split c fo); iexact Ho
    iexact Hco
  isplitl [Hx]; · iexact Hx
  isplitl [Hy]; · iexact Hy
  iexact Hp
/-- and closed again. -/
theorem keep_close (c : Dev nD) (W : (c : Dev nD) → (b : Ref sig .tc) → Buf (Elt F) ((c : Thread nD τ).loc b)) :
    iprop(bigSep Finset.univ (freeI c) ∗ bigSep Finset.univ (freeO c)
      ∗ bigSep Finset.univ (homeP c (V m c main_arg0)) ∗ bigSep Finset.univ (aheadP c (W c main_v10)) ∗ ∃ r, prngReg c r)
    ⊢ (Pipeline.ΦDRG osem spec0 HR WR (V m) W c : sProp 𝕄) := by
  rw [Pipeline.ΦDRG_eq, scopedRest0_eq, ownSems0_eq, bigSep_singleton, Pipeline.routed_singleton]
  rw [show bigSep Finset.univ (freeI c) = iprop(bigSep Finset.univ (fun s => iprop(∃ f, slotP c iM s f)) ∗ bigSep Finset.univ (cellP c cc0_scratch2)) from bigSep_sep _ _ _,
    show bigSep Finset.univ (freeO c) = iprop(bigSep Finset.univ (fun s => iprop(∃ f, slotP c oM s f)) ∗ bigSep Finset.univ (cellP c cc0_scratch3)) from bigSep_sep _ _ _,
    ← x_eq, ← y_eq]
  iintro ⟨⟨Hi, Hci⟩, ⟨Ho, Hco⟩, Hx, Hy, Hp⟩
  isplitl [Hi Ho]
  · isplitl [Hi]; · iapply (i_join c); iexact Hi
    iapply (o_join c); iexact Ho
  isplitl [Hp]; · iexact Hp
  isplitl [Hci Hco]
  · isplitl [Hci]; · iexact Hci
    iexact Hco
  isplitl [Hx]; · iexact Hx
  iexact Hy

/-! ## The pipeline's proof data -/

abbrev st (t : Fin cfg0.N) : Memref sig .tc .vmem S1x4096 .f32 := win0_0.stage (cfg0.slots t 0)
abbrev hst (t : Fin cfg0.N) : (st t).IsWhole := hstage0_0 0

/-- The output's array before the one point and after it. -/
def Wt (t : Fin (cfg0.N + 1)) : (c : Dev nD) → (b : Ref sig .tc) → Buf (Elt F) ((c : Thread nD τ).loc b) :=
  if t.val = 0 then V m else Gv m

def dats (_ : Fin 1) (c : Dev nD) : Dat τ (Elt F) Unit ℕ (UU nD τ) ℕ cfg0 c where
  A w := V m c (Pipeline.arrRef spec0 w)
  after w t := match w with
    | ⟨0, _⟩ => iblk m c 0 t
  Φ t := Pipeline.ΦDRG osem spec0 HR WR (V m) (Wt m t) c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]

/-- The row as the body loads it from its staging buffer is the row in the mask array. -/
theorem row_eq (c : Dev nD) (t : Fin cfg0.N) : maskRow c (st t) ((st t).view.rep (iblk m c 0 t)) = rowOf m c := by
  refine (shapeCast_self (s := S1x4096) _ _).trans (funext fun j => ?_)
  rw [View.readAt_apply, View.read_rep]
  unfold iblk; rw [View.read_apply]
  refine congrArg (V m c main_v9) (funext fun a => ?_)
  match a with
  | ⟨0, _⟩ => exact Subsingleton.elim (α := Fin 1) _ _
  | ⟨1, _⟩ => exact Fin.ext (show 0 * 4096 + 1 * (0 + 1 * (j 1).val) = (j 1).val by omega)

theorem defs_tc : (defs₀ (F := F)) .tc cfg0.body = fun a => bodyG (win0_0.stage (a.2 0)) (hstage0_0 0) := rfl
theorem prog_eq (t : Fin cfg0.N) : (defs₀ (F := F)) .tc cfg0.body (cfg0.bodyArgs t (cfg0.slots t)) = bodyG (st t) (hst t) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, after_w0]
  have ht : t.val = 0 := by have := t.isLt; have e : cfg0.N = 1 := N_0; omega
  rw [show (dats m 0 c).Φ t.castSucc = Pipeline.ΦDRG osem spec0 HR WR (V m) (V m) c from congrArg (fun W => Pipeline.ΦDRG osem spec0 HR WR (V m) W c) (if_pos ht),
    show (dats m 0 c).Φ t.succ = Pipeline.ΦDRG osem spec0 HR WR (V m) (Gv m) c from congrArg (fun W => Pipeline.ΦDRG osem spec0 HR WR (V m) W c) (if_neg (Nat.succ_ne_zero _))]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %hg0, Hm⟩⟩
  ihave HΦ' := (keep_open m c (V m)) $$ HΦ
  icases HΦ' with ⟨Hi, Ho, Hx, Hy, Hp⟩
  ihave Hm' := (pointsTo_rep_entails (c : Thread nD τ) (st t) g0 fullShare) $$ Hm
  rw [hg0]
  ihave Hi' := (of_eq (six_all (freeI c))) $$ Hi
  icases Hi' with ⟨Hi0, Hi1, Hi2, Hi3, Hi4, Hi5⟩
  ihave Ho' := (of_eq (six_start (freeO c))) $$ Ho
  ihave Hx' := (of_eq (homes_zero c (V m c main_arg0))) $$ Hx
  icases Hx' with ⟨Hx0, Hx1, Hx2, Hx3, Hx4, Hx5, Hxs⟩
  sl_rw [prog_eq t]
  iapply (bodyRun c (V m c main_arg0) (V m c main_v10) (st t) (hst t))
  isplitl [Hm' Hi0 Hi1 Hi2 Hi3 Hi4 Hi5 Ho' Hx0 Hx1 Hx2 Hx3 Hx4 Hx5 Hxs Hy HW]
  · isplitl [Hm']; · iexact Hm'
    isplitl [Hi0 Hi1 Hi2 Hi3 Hi4 Hi5 Hx0 Hx1 Hx2 Hx3 Hx4 Hx5]
    · isplitl [Hi0 Hx0]; · isplitl [Hi0] <;> iassumption
      isplitl [Hi1 Hx1]; · isplitl [Hi1] <;> iassumption
      isplitl [Hi2 Hx2]; · isplitl [Hi2] <;> iassumption
      isplitl [Hi3 Hx3]; · isplitl [Hi3] <;> iassumption
      isplitl [Hi4 Hx4]; · isplitl [Hi4] <;> iassumption
      isplitl [Hi5] <;> iassumption
    isplitl [Ho']; · iexact Ho'
    isplitl [Hxs]; · iexact Hxs
    isplitl [Hy]; · iexact Hy
    iexists W; iexact HW
  · rw [row_eq]
    unfold rings
    rw [six_end (freeI c) (roleI c (V m c main_arg0)) (fun i hi => if_neg (by omega)), six_end (freeO c) (roleO c (YB c (V m c main_arg0) (rowOf m c))) (fun i hi => if_neg (by omega)), Ring.homeSet_last 6 70 (by omega),
      aheadS_last (k := 70) (by omega), doneS_last (k := 70) (by omega)]
    iintro ⟨Hm, Hi, Ho, Hx, -, Hd, ⟨%W', HW⟩⟩
    isplitl [Hi Ho Hx Hd Hp]
    · iapply (keep_close m c (Gv m))
      isplitl [Hi]; · iexact Hi
      isplitl [Ho]; · iexact Ho
      isplitl [Hx]; · iexact Hx
      isplitl [Hd]
      · irw [Gv_res]
        iapply (show bigSep Finset.univ (doneP c (YB c (V m c main_arg0) (rowOf m c))) ⊢ (bigSep Finset.univ (aheadP c (resOf m c)) : sProp 𝕄) from
          bigSep_mono fun b _ => done_full c (rowOf m c) (V m c main_arg0) b)
        iexact Hd
      iexact Hp
    isplitl [HW]
    · iexists W'; isplitr; · ipureintro; exact fun _ _ => Or.inl trivial
      iexact HW
    iexists _; isplitr; · ipureintro; exact View.read_rep _ _
    iexact Hm

/-! ## The run -/

set_option maxHeartbeats 800000 in
/-- The program up to the kernel. -/
theorem hmainU : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- The two arrays the kernel moves itself are staged by no window. -/
theorem mem_arg0 : main_arg0 ∈ Pipeline.restRefs sig spec0 := Pipeline.mem_restRefs_of main_arg0 (by decide) (by decide)
theorem mem_v10 : main_v10 ∈ Pipeline.restRefs sig spec0 := Pipeline.mem_restRefs_of main_v10 (by decide) (by decide)
theorem arg0_ne_v10 : (main_arg0 : Ref sig .tc) ≠ main_v10 := by decide

set_option backward.isDefEq.respectTransparency.types false in
/-- Every run of the program ends; the input is as it was, the result is the row and the input put together, and
    every counter is back at zero. -/
theorem run_main : θ_run (Pipeline.defs (fun q => Cfg.toPCfg (Val := Elt F) (cfgs q)) defs₀) (onTc (τ := τ) (main (F := F))) (s₀ m ρ)
    (fun r => (∀ c : Dev nD, r.2.mem ((c.tc : Thread nD τ).loc main_arg0) = m ((c.tc : Thread nD τ).loc main_arg0)
        ∧ r.2.mem ((c.tc : Thread nD τ).loc main_v10) = outFull (rowOf m c) (m ((c.tc : Thread nD τ).loc main_arg0)))
      ∧ r.2.sem = fun _ => 0) :=
  Pipeline.θ_run_frame_dmaRG cfgs (dats m) (0 : Fin 1) launch0 osem defs₀ 𝒱₀ ownSemFacts HR WR (Finset.singleton_subset_iff.mpr mem_arg0)
    (Finset.singleton_subset_iff.mpr (Finset.mem_sdiff.mpr ⟨mem_v10, fun h => arg0_ne_v10 (Finset.mem_singleton.mp h).symm⟩)) m ρ main
    (hbody := fun c => (body_obligation m c).loose) (hshare := fun c => (dats m 0 c).share_full fun _ => rfl)
    (howed := fun _ _ => rfl) (V := V m) (hmain := hmainU m) (hA := fun _ _ => rfl) (G := Gv m)
    (hin := fun c => .rfl) (hout := fun c => .rfl) (Q' := _)
    (hQ' := fun r h => ⟨fun c => ⟨
      ((h.1.1 c).2 main_arg0 (Finset.mem_sdiff.mpr ⟨mem_arg0, fun h => arg0_ne_v10 (Finset.mem_singleton.mp h)⟩)).trans (V_main_arg0 m c),
      (h.1.written c (Finset.mem_singleton_self _)).trans ((Gv_res m c).trans (congrArg (outFull (rowOf m c)) (V_main_arg0 m c)))⟩, h.2⟩)

end Cert.Proof.Ring01

end
-- ==== Proof.Same.lean ====
/-
  The idealized program is the program: no operation was rewritten, so its text, its body table and its layout are the
  same term by term, and what is proved of one at every float type holds of the other.
-/
module

public import proofs.«01_k».proof.Proof.Launch
public import proofs.«01_k».proof.KernelIdeal

@[expose] public section

noncomputable section

namespace Cert.Proof.Ring01

open Idealize.ShloMosaic
open Idealize.ShloMosaic.TcCoe
open Idealize.SL.Sem

variable {F : FTy → Type} [FloatOps F]

/-- The two body tables of the kernels agree, label by label, -/
theorem defs₀_same [Cert.Kernel.Facts] [Cert.KernelIdeal.Facts] :
    Cert.KernelIdeal.defs₀ (F := F) = Cert.Kernel.defs₀ (F := F) := by
  funext p l a
  cases p with
  | tc =>
    match l, a with
    | 0, a => rfl
    | ⟨_ + 1, h⟩, _ => exact absurd h (Nat.not_lt.2 (Nat.le_add_left _ _))
  | scScalar => rfl
  | scVector => rfl
theorem pcfgs_same [Cert.Kernel.Facts] [Cert.KernelIdeal.Facts] :
    Cert.KernelIdeal.pcfgs (F := F) = Cert.Kernel.pcfgs (F := F) := rfl
/-- and so do the tables of the whole programs, -/
theorem defs_same [Cert.Kernel.Facts] [Cert.KernelIdeal.Facts] :
    Cert.KernelIdeal.defs (F := F) = Cert.Kernel.defs (F := F) := by
  exact congrArg (Pipeline.defs (Cert.Kernel.pcfgs (F := F))) (defs₀_same (F := F))
set_option maxHeartbeats 4000000 in
/-- and the programs. -/
theorem main_same [Cert.Kernel.Facts] [Cert.KernelIdeal.Facts] :
    Cert.KernelIdeal.main (F := F) = Cert.Kernel.main (F := F) := rfl

end Cert.Proof.Ring01

end
-- ==== Proof.Mask.lean ====
/-
  Two programs on two buffer layouts that begin with the same operations on the same numbered arrays: after that common
  line the arrays written so far hold the same values in both.
-/
module

public import proofs.«01_k».proof.Proof.Gen.ReferenceIdeal
public import proofs.«01_k».proof.Proof.Gen.Kernel.Launch
public import Idealize.ShloMosaic.Lib.Claim

@[expose] public section

noncomputable section

namespace Cert.Proof.Ring01

open Idealize.ShloMosaic
open Idealize.ShloMosaic.TcCoe
open Idealize.ShloMosaic.StableHlo (nullary unary binary reshape after)
open Idealize.SL.Sem

variable {τ : Topo} {σ σ' : RefSig} {Val : EltTy → Type}

/-- The reference is to the array numbered `n`. -/
def At {σ : RefSig} (r : Ref σ .tc) (n : ℕ) : Prop := r.space = .hbm ∧ r.idx.val = n

theorem At.eq {r s : Ref σ .tc} {n : ℕ} (hr : At r n) (hs : At s n) : r = s := by
  obtain ⟨sp, i, hi⟩ := r; obtain ⟨sp', j, hj⟩ := s
  obtain ⟨h1, h2⟩ := hr; obtain ⟨h3, h4⟩ := hs
  dsimp only at h1 h2 h3 h4
  subst h1; subst h3
  obtain rfl : i = j := Fin.ext (h2.trans h4.symm)
  rfl
theorem At.ne {r s : Ref σ .tc} {n k : ℕ} (hr : At r n) (hs : At s k) (h : n ≠ k) : r ≠ s := by
  rintro rfl; exact h (hr.2.symm.trans hs.2)

/-- The arrays numbered below `k` hold the same in both. -/
def Agree (k : ℕ) (V : Valuation τ σ Val) (V' : Valuation τ σ' Val) : Prop :=
  ∀ (n : ℕ) (r : Ref σ .tc) (r' : Ref σ' .tc), n < k → At r n → At r' n → HEq (V (Proc.devRef .tc r)) (V' (Proc.devRef .tc r'))

/-- Both operations write the array numbered `k`, and the same value wherever the arrays below agree. -/
def Pair (k : ℕ) (op : HloOp τ σ Val) (op' : HloOp τ σ' Val) : Prop :=
  ∀ V V', Agree k V V' → Agree (k + 1) (op.result V) (op'.result V')

/-- Two operations that write their result to the array numbered `k` and leave the others. -/
theorem pair_of {k : ℕ} {op : HloOp τ σ Val} {op' : HloOp τ σ' Val} {y : Ref σ .tc} {y' : Ref σ' .tc} (hy : At y k) (hy' : At y' k)
    (hn : ∀ V (r : Ref σ .tc), r ≠ y → op.result V (Proc.devRef .tc r) = V (Proc.devRef .tc r))
    (hn' : ∀ V (r : Ref σ' .tc), r ≠ y' → op'.result V (Proc.devRef .tc r) = V (Proc.devRef .tc r))
    (hv : ∀ V V', Agree k V V' → HEq (op.result V (Proc.devRef .tc y)) (op'.result V' (Proc.devRef .tc y'))) : Pair k op op' := by
  intro V V' h n r r' hlt hr hr'
  by_cases e : n = k
  · subst e
    cases hr.eq hy; cases hr'.eq hy'
    exact hv V V' h
  · rw [hn V r (hr.ne hy e), hn' V' r' (hr'.ne hy' e)]
    exact h n r r' (by omega) hr hr'

theorem heq_app {A A' B B' : Type} (hA : A = A') (hB : B = B') {f : A → B} {f' : A' → B'} (hf : HEq f f') {a : A} {a' : A'} (ha : HEq a a') :
    HEq (f a) (f' a') := by
  subst hA; subst hB; cases hf; cases ha; rfl
theorem heq_app₂ {A A' B B' C C' : Type} (hA : A = A') (hB : B = B') (hC : C = C') {f : A → B → C} {f' : A' → B' → C'} (hf : HEq f f')
    {a : A} {a' : A'} (ha : HEq a a') {b : B} {b' : B'} (hb : HEq b b') : HEq (f a b) (f' a' b') := by
  subst hA; subst hB; subst hC; cases hf; cases ha; cases hb; rfl

/-- A constant, -/
theorem pair_nullary {k : ℕ} {y : Ref σ .tc} {y' : Ref σ' .tc} {v : y.ty.Contents Val} {v' : y'.ty.Contents Val} {hy hy'}
    (ey : At y k) (ey' : At y' k) (hv : HEq v v') : Pair k (nullary (τ := τ) y v hy) (nullary (τ := τ) y' v' hy') :=
  pair_of ey ey' (fun V r h => StableHlo.nullary_result_ne' v hy V h) (fun V r h => StableHlo.nullary_result_ne' v' hy' V h)
    fun V V' _ => by rw [StableHlo.nullary_result, StableHlo.nullary_result]; exact hv
/-- an operation of one operand, -/
theorem pair_unary {k n : ℕ} {x y : Ref σ .tc} {x' y' : Ref σ' .tc} {f : x.ty.Contents Val → y.ty.Contents Val}
    {f' : x'.ty.Contents Val → y'.ty.Contents Val} {hx hy hx' hy'} (ex : At x n) (ex' : At x' n) (hlt : n < k)
    (ey : At y k) (ey' : At y' k) (hX : x.ty = x'.ty) (hY : y.ty = y'.ty) (hf : HEq f f') :
    Pair k (unary (τ := τ) x y f hx hy) (unary (τ := τ) x' y' f' hx' hy') :=
  pair_of ey ey' (fun V r h => StableHlo.unary_result_ne' f hx hy V h) (fun V r h => StableHlo.unary_result_ne' f' hx' hy' V h)
    fun V V' h => by
      rw [StableHlo.unary_result, StableHlo.unary_result]
      exact heq_app (congrArg (·.Contents Val) hX) (congrArg (·.Contents Val) hY) hf (h n x x' hlt ex ex')
/-- of two operands, -/
theorem pair_binary {k n n₂ : ℕ} {a b y : Ref σ .tc} {a' b' y' : Ref σ' .tc} {f : a.ty.Contents Val → b.ty.Contents Val → y.ty.Contents Val}
    {f' : a'.ty.Contents Val → b'.ty.Contents Val → y'.ty.Contents Val} {ha hb hy ha' hb' hy'} (ea : At a n) (ea' : At a' n) (hlt : n < k)
    (eb : At b n₂) (eb' : At b' n₂) (hlt₂ : n₂ < k) (ey : At y k) (ey' : At y' k)
    (hA : a.ty = a'.ty) (hB : b.ty = b'.ty) (hY : y.ty = y'.ty) (hf : HEq f f') :
    Pair k (binary (τ := τ) a b y f ha hb hy) (binary (τ := τ) a' b' y' f' ha' hb' hy') :=
  pair_of ey ey' (fun V r h => StableHlo.binary_result_ne' f ha hb hy V h) (fun V r h => StableHlo.binary_result_ne' f' ha' hb' hy' V h)
    fun V V' h => by
      rw [StableHlo.binary_result, StableHlo.binary_result]
      exact heq_app₂ (congrArg (·.Contents Val) hA) (congrArg (·.Contents Val) hB) (congrArg (·.Contents Val) hY) hf
        (h n a a' hlt ea ea') (h n₂ b b' hlt₂ eb eb')
theorem heq_shapeCast {T T' U U' : BufTy} (hT : T = T') (hU : U = U') {v : T.Contents Val} {v' : T'.Contents Val} (hv : HEq v v')
    (he : T.elt = U.elt) (he' : T'.elt = U'.elt) (hn : T.shape.ShapeCasts U.shape) (hn' : T'.shape.ShapeCasts U'.shape) :
    HEq (fun i => he ▸ shapeCast U.shape v hn i : U.Contents Val) (fun i => he' ▸ shapeCast U'.shape v' hn' i : U'.Contents Val) := by
  subst hT; subst hU; cases hv; rfl
/-- and a change of shape. -/
theorem pair_reshape {k n : ℕ} {x y : Ref σ .tc} {x' y' : Ref σ' .tc} {he hc hx hy he' hc' hx' hy'} (ex : At x n) (ex' : At x' n) (hlt : n < k)
    (ey : At y k) (ey' : At y' k) (hX : x.ty = x'.ty) (hY : y.ty = y'.ty) :
    Pair k (reshape (τ := τ) (Val := Val) x y he hc hx hy) (reshape (τ := τ) (Val := Val) x' y' he' hc' hx' hy') :=
  pair_of ey ey' (fun V r h => StableHlo.reshape_result_ne' he hc hx hy V h) (fun V r h => StableHlo.reshape_result_ne' he' hc' hx' hy' V h)
    fun V V' h => by
      rw [StableHlo.reshape_result, StableHlo.reshape_result]
      exact heq_shapeCast hX hY (h n x x' hlt ex ex') _ _ _ _

/-- `ops'` begins with partners of `ops` that write the arrays from number `k` on in order, and goes on with `rest`. -/
inductive Follow : ℕ → List (HloOp τ σ Val) → List (HloOp τ σ' Val) → List (HloOp τ σ' Val) → Prop
  | nil {k rest} : Follow k [] rest rest
  | cons {k op op' ops ops' rest} : Pair k op op' → Follow (k + 1) ops ops' rest → Follow k (op :: ops) (op' :: ops') rest

theorem Follow.run {k : ℕ} {ops : List (HloOp τ σ Val)} {ops' rest : List (HloOp τ σ' Val)} (h : Follow k ops ops' rest) :
    ∀ {V : Valuation τ σ Val} {V' : Valuation τ σ' Val}, Agree k V V' →
      ∃ W, after ops' V' = after rest W ∧ Agree (k + ops.length) (after ops V) W := by
  induction h with
  | nil => exact fun {V V'} h => ⟨V', rfl, h⟩
  | cons hp _ ih =>
    intro V V' hA
    obtain ⟨W, h1, h2⟩ := ih (hp V V' hA)
    refine ⟨W, h1, ?_⟩
    rw [List.length_cons, Nat.add_comm _ 1, ← Nat.add_assoc]
    exact h2

end Cert.Proof.Ring01

end
-- ==== Proof.Tail.lean ====
/-
  What the reference makes of the bits and its argument, and one element of it.
-/
module

public import proofs.«01_k».proof.Defs
public import proofs.«01_k».proof.Proof.Gen.ReferenceIdeal

@[expose] public section

noncomputable section

namespace Cert.Proof.Ring01

open Idealize.ShloMosaic
open Idealize.ShloMosaic.TcCoe

variable {F : FTy → Type} [FloatOps F]

section Tail
open Cert.ReferenceIdeal Cert.ReferenceIdeal.Facts₀ Cert.ReferenceIdeal.Facts

/-- The bits, one for each column. -/
abbrev BitRow (F : FTy → Type) : Type := (⟨S4096, .i1⟩ : BufTy).Contents (Elt F)
/-- The bits spread over the array's rows. -/
abbrev spread (M : BitRow F) : (⟨S16384x4096, .i1⟩ : BufTy).Contents (Elt F) :=
  broadcastInDim S16384x4096 ![0, 1] bcast_S1x4096_S16384x4096_0_1 (broadcastInDim S1x4096 ![1] bcast_S4096_S1x4096_1 M)
/-- A number at every place of the array. -/
abbrev fill (b : BitVec 32) : FVec F S16384x4096 .f32 := broadcastInDim S16384x4096 ![] bcast_S_S16384x4096 (constant S_ .f32 b)
/-- What the reference makes of the bits and its argument. -/
def maskedRelu (M : BitRow F) (X : FVec F S16384x4096 .f32) : FVec F S16384x4096 .f32 :=
  select (andi (cmpf .ogt X (fill 0x00000000#32)) (spread M)) (fill 0x3F800000#32)
    (select (andi (cmpf .ole X (fill 0x00000000#32)) (spread M)) (fill 0x00000000#32) (maximumf X (fill 0x00000000#32)))

/-- A column's place in the row of bits. -/
abbrev bitIdx (j : Fin 4096) : S4096.Idx := fun a => match a with | ⟨0, _⟩ => j
/-- The spread bits, read at one place. -/
theorem spread_apply (M : BitRow F) (y : S16384x4096.Idx) : spread M y = M (bitIdx (y 1)) :=
  congrArg M (funext fun a => match a with | ⟨0, _⟩ => rfl)
/-- One element of what the reference makes of one bit and one number. -/
def maskedPoint (b : BitVec 1) (x : F .f32) : F .f32 :=
  Scalar.select (FloatOps.cmpf .ogt x (Scalar.ofBits .f32 0x00000000#32) &&& b) (Scalar.ofBits .f32 0x3F800000#32)
    (Scalar.select (FloatOps.cmpf .ole x (Scalar.ofBits .f32 0x00000000#32) &&& b) (Scalar.ofBits .f32 0x00000000#32)
      (FloatOps.maximumf x (Scalar.ofBits .f32 0x00000000#32)))
theorem maskedRelu_apply (M : BitRow F) (X : FVec F S16384x4096 .f32) (y : S16384x4096.Idx) :
    maskedRelu M X y = maskedPoint (M (bitIdx (y 1))) (X y) := by
  rw [← spread_apply M y]; rfl

end Tail

end Cert.Proof.Ring01

end
-- ==== Proof.RefRun.lean ====
/-
  The run of the reference: its operations, begun by the kernel's own mask computation.
-/
module

public import proofs.«01_k».proof.Proof.Mask
public import proofs.«01_k».proof.Proof.Tail
public import proofs.«01_k».proof.Defs

@[expose] public section

noncomputable section

namespace Cert.Proof.Ring01

open Idealize.ShloMosaic
open Idealize.ShloMosaic.TcCoe
open Idealize.ShloMosaic.StableHlo (after)
open Idealize.SL.Sem

variable {F : FTy → Type} [FloatOps F]

set_option maxHeartbeats 40000000 in
set_option maxRecDepth 16384 in
/-- The reference runs a list of operations that begins with the kernel's own computation of the bits, leaves the argument,
    and ends by masking the argument with those bits. -/
theorem reference_line : ∃ (ops rest : List (HloOp Cert.ReferenceIdeal.τ Cert.ReferenceIdeal.sig (Elt F))),
    (∀ m ρ, θ_run (Cert.ReferenceIdeal.defs (F := F)) (onTc (τ := Cert.ReferenceIdeal.τ) Cert.ReferenceIdeal.main) ⟨m, fun _ => 0, ρ⟩ fun r =>
        ∀ (d : Dev Cert.ReferenceIdeal.nD) (b : Ref Cert.ReferenceIdeal.sig .tc),
          r.2.mem ((d.tc : Thread Cert.ReferenceIdeal.nD Cert.ReferenceIdeal.τ).loc b) = after ops (StableHlo.launchContents m d) (Proc.devRef .tc b))
      ∧ Follow 1 (Cert.Kernel.Gen.hostOps0 ++ Cert.Kernel.Gen.hostOps0_1) ops rest
      ∧ (∀ V, after ops V (Proc.devRef .tc Cert.ReferenceIdeal.main_arg0) = V (Proc.devRef .tc Cert.ReferenceIdeal.main_arg0))
      ∧ (∀ W, after rest W (Proc.devRef .tc Cert.ReferenceIdeal.main_v19)
          = maskedRelu (W (Proc.devRef .tc Cert.ReferenceIdeal.main_v7)) (W (Proc.devRef .tc Cert.ReferenceIdeal.main_arg0))) := by
  apply Exists.intro; apply Exists.intro
  refine ⟨StableHlo.run_hlo _ _ (by hlo_seq) (by decide) (by decide) (by simp)
      (by intro _ h; (repeat (cases h with | head => rfl | tail _ h => ?_)); exact nomatch h), ?_, ?_, ?_⟩
  · repeat (apply Follow.cons
            · first
                | apply pair_nullary
                | apply pair_unary
                | apply pair_binary
                | apply pair_reshape
              all_goals first | exact ⟨rfl, rfl⟩ | exact rfl | exact HEq.rfl | decide)
    exact .nil
  · intro V
    after_results
  · intro W
    after_results
    rfl

end Cert.Proof.Ring01

end
-- ==== Proof.Value.lean ====
/-
  One element of the result, from both sides: the kernel's and the reference's.
-/
module

public import proofs.«01_k».proof.Proof.Pieces
public import proofs.«01_k».proof.Proof.Tail
public import Idealize.ShloMosaic.Lib.IdealHost

@[expose] public section

noncomputable section

namespace Cert.Proof.Ring01

open Idealize.ShloMosaic
open Idealize.ShloMosaic.TcCoe

/-- A half, as the kernel writes it. -/
theorem half_eq : Ideal.ofBits .f32 0x3F000000#32 = (((1 : ℝ) / 2 : ℝ) : EReal) := by
  simp [Ideal.ofBits, Ideal.ieee, -EReal.coe_mul]; norm_num

/-- Reading a bit as a number and asking whether that is above a half gives the bit back, -/
theorem bit_back (b : BitVec 1) :
    FloatOps.cmpf .ogt (FloatOps.uitofp (F := Ideal) .f32 b) (Scalar.ofBits .f32 0x3F000000#32) = b := by
  show Ideal.cmp .ogt (((b.toNat : ℝ)) : EReal) (Ideal.ofBits .f32 0x3F000000#32) = b
  rw [half_eq]
  obtain rfl | rfl : b = 0#1 ∨ b = 1#1 := by revert b; decide
  · have h : ¬ (((1 : ℝ) / 2 : ℝ) : EReal) < (((0#1).toNat : ℝ) : EReal) := by rw [EReal.coe_lt_coe_iff]; norm_num
    simp only [Ideal.cmp, h, decide_false]; rfl
  · have h : (((1 : ℝ) / 2 : ℝ) : EReal) < (((1#1).toNat : ℝ) : EReal) := by rw [EReal.coe_lt_coe_iff]; norm_num
    simp only [Ideal.cmp, h, decide_true]; rfl

/-- and reading a bit as a whole number gives one or zero. -/
theorem bit_number (b : BitVec 1) :
    FloatOps.sitofp (F := Ideal) .f32 (b.setWidth 32) = Scalar.select b (Ideal.ofBits .f32 0x3F800000#32) (Ideal.ofBits .f32 0x00000000#32) := by
  show ((((b.setWidth 32).toInt : ℝ)) : EReal) = _
  obtain rfl | rfl : b = 0#1 ∨ b = 1#1 := by revert b; decide
  · simp [Scalar.select]
  · simp [Scalar.select]

/-- The two elements agree, whatever the bit and the number. -/
theorem point_eq (b : BitVec 1) (x : Ideal .f32) : point (FloatOps.uitofp (F := Ideal) .f32 b) x = maskedPoint b x := by
  unfold point maskedPoint
  rw [bit_back, bit_number]
  have hle : FloatOps.cmpf .ole x (Scalar.ofBits .f32 0x00000000#32) = ~~~ FloatOps.cmpf .ogt x (Scalar.ofBits (F := Ideal) .f32 0x00000000#32) := by
    show Ideal.cmp .ole x _ = ~~~ Ideal.cmp .ogt x _
    generalize Scalar.ofBits (F := Ideal) .f32 0x00000000#32 = z
    by_cases h : x ≤ z
    · simp only [Ideal.cmp, h, not_lt.mpr h, decide_true, decide_false]; rfl
    · simp only [Ideal.cmp, h, not_le.mp h, decide_true, decide_false]; rfl
  rw [hle]
  generalize FloatOps.cmpf .ogt x (Scalar.ofBits (F := Ideal) .f32 0x00000000#32) = p
  obtain rfl | rfl : b = 0#1 ∨ b = 1#1 := by revert b; decide
  · simp [Scalar.select]
  · obtain rfl | rfl : p = 0#1 ∨ p = 1#1 := by revert p; decide
    · simp [Scalar.select]
    · simp [Scalar.select]

end Cert.Proof.Ring01

end
-- ==== Proof.Meet.lean ====
/-
  The kernel's row of masks and the reference's bits are the same computation; hence the two programs' runs, stated with
  one and the same row of bits.
-/
module

public import proofs.«01_k».proof.Proof.Launch
public import proofs.«01_k».proof.Proof.RefRun
public import proofs.«01_k».proof.Proof.Value

@[expose] public section

noncomputable section

namespace Cert.Proof.Ring01

open Idealize.ShloMosaic
open Idealize.ShloMosaic.TcCoe
open Idealize.ShloMosaic.StableHlo (after)
open Idealize.SL.Sem

variable {F : FTy → Type} [FloatOps F]

theorem after_append {τ : Topo} {σ : RefSig} {Val : EltTy → Type} (l k : List (HloOp τ σ Val)) :
    ∀ V : Valuation τ σ Val, after (l ++ k) V = after k (after l V) := by
  induction l with
  | nil => exact fun _ => rfl
  | cons op l ih => exact fun V => ih (op.result V)

section Kernel
open Cert.Kernel Cert.Kernel.Gen

variable (m : (ℓ : Loc nD τ sig) → Buf (Elt F) ℓ) (c : Dev nD)

/-- What the kernel's buffers hold once its bits are computed, -/
abbrev withBits : Valuation τ sig (Elt F) := after (hostOps0 ++ hostOps0_1) (fun b => m (c, b))
/-- and the bits. -/
abbrev bitsOf : BitRow F := withBits m c (Proc.devRef .tc main_v7)

/-- The last two operations before the kernel turn the bits into numbers and lay them out as a row, -/
theorem last_row (W : Valuation τ sig (Elt F)) (j : Fin 4096) :
    (after hostOps0_2 W (Proc.devRef .tc main_v9) : FVec F S1x4096 .f32) (rowIdx j)
      = FloatOps.uitofp .f32 ((W (Proc.devRef .tc main_v7) : BitRow F) (bitIdx j)) := by
  have e : (after hostOps0_2 W (Proc.devRef .tc main_v9) : FVec F S1x4096 .f32)
      = broadcastInDim S1x4096 ![1] Facts₀.bcast_S4096_S1x4096_1 (uitofp .f32 (W (Proc.devRef .tc main_v7) : BitRow F)) := by
    after_results
  rw [e]
  exact congrArg (fun i => FloatOps.uitofp .f32 ((W (Proc.devRef .tc main_v7) : BitRow F) i)) (funext fun a => match a with | ⟨0, _⟩ => rfl)
/-- and leave the argument. -/
theorem last_arg (W : Valuation τ sig (Elt F)) : after hostOps0_2 W (Proc.devRef .tc main_arg0) = W (Proc.devRef .tc main_arg0) := by
  after_results

theorem host_split : (List.flatten [hostOps0, hostOps0_1, hostOps0_2] : List (HloOp τ sig (Elt F))) = (hostOps0 ++ hostOps0_1) ++ hostOps0_2 := by
  rw [List.flatten_cons, List.flatten_cons, List.flatten_cons, List.flatten_nil, List.append_nil, List.append_assoc]
theorem V_split (b : Ref sig .tc) : V m c b = after hostOps0_2 (withBits m c) (Proc.devRef .tc b) :=
  congrFun ((congrArg (fun l => after l (fun b => m (c, b))) host_split).trans (after_append _ _ _)) _

/-- The row the kernel reads is the bits as numbers. -/
theorem row_bits (j : Fin 4096) : rowOf m c (rowIdx j) = FloatOps.uitofp .f32 (bitsOf m c (bitIdx j)) :=
  (congrFun (V_split m c main_v9) _).trans (last_row _ j)
theorem bits_arg : withBits m c (Proc.devRef .tc main_arg0) = m ((c.tc : Thread nD τ).loc main_arg0) :=
  (last_arg _).symm.trans ((V_split m c main_arg0).symm.trans (V_main_arg0 m c))

end Kernel

/-- The kernel's result is the reference's, of the kernel's own bits. -/
theorem outFull_eq (m : (ℓ : Loc Cert.Kernel.nD Cert.Kernel.τ Cert.Kernel.sig) → Buf (Elt Ideal) ℓ) (c : Dev Cert.Kernel.nD)
    (X : FVec Ideal Cert.Kernel.S16384x4096 .f32) : outFull (rowOf m c) X = maskedRelu (bitsOf m c) X :=
  funext fun y => (congrArg (point · (X y)) (row_bits m c (y 1))).trans ((point_eq _ _).trans (maskedRelu_apply _ _ y).symm)

section Reference
open Cert.ReferenceIdeal

/-- The only array numbered below one is the argument: two memories that agree there agree below one. -/
theorem agree_one {V : Valuation Cert.Kernel.τ Cert.Kernel.sig (Elt F)} {V' : Valuation τ sig (Elt F)}
    (h : HEq (V (Proc.devRef .tc Cert.Kernel.main_arg0)) (V' (Proc.devRef .tc main_arg0))) : Agree 1 V V' := by
  intro n r r' hn hr hr'
  obtain rfl : n = 0 := by omega
  obtain rfl := hr.eq (s := Cert.Kernel.main_arg0) ⟨rfl, rfl⟩
  obtain rfl := hr'.eq (s := main_arg0) ⟨rfl, rfl⟩
  exact h

/-- The kernel's operations up to its bits, counted. -/
theorem bits_count : (Cert.Kernel.Gen.hostOps0 ++ Cert.Kernel.Gen.hostOps0_1 : List (HloOp Cert.Kernel.τ Cert.Kernel.sig (Elt F))).length = 272 := rfl

/-- The reference's run, from the kernel's argument: it ends with the argument masked by the kernel's own bits. -/
theorem reference_run (m : (ℓ : Loc Cert.Kernel.nD Cert.Kernel.τ Cert.Kernel.sig) → Buf (Elt F) ℓ)
    (m' : (ℓ : Loc nD τ sig) → Buf (Elt F) ℓ) (ρ' : Dev nD → PrngReg)
    (h : ∀ c : Dev Cert.Kernel.nD, m' ((c.tc : Thread nD τ).loc main_arg0) = m ((c.tc : Thread Cert.Kernel.nD Cert.Kernel.τ).loc Cert.Kernel.main_arg0)) :
    θ_run (defs (F := F)) (onTc (τ := τ) main) ⟨m', fun _ => 0, ρ'⟩ fun r => ∀ c : Dev nD,
      r.2.mem ((c.tc : Thread nD τ).loc main_v19) = maskedRelu (bitsOf m c) (m ((c.tc : Thread Cert.Kernel.nD Cert.Kernel.τ).loc Cert.Kernel.main_arg0))
        ∧ r.2.mem ((c.tc : Thread nD τ).loc main_arg0) = m' ((c.tc : Thread nD τ).loc main_arg0) := by
  obtain ⟨ops, rest, hrun, hfollow, harg, htail⟩ := reference_line (F := F)
  refine (θ_run _ _ _).mono (fun r hr c => ⟨?_, (hr c main_arg0).trans (harg _)⟩) (hrun m' ρ')
  obtain ⟨W, hW, hA⟩ := hfollow.run (V := fun b => m (c, b)) (V' := StableHlo.launchContents m' c) (agree_one (heq_of_eq (h c).symm))
  rw [bits_count] at hA
  have hbits : bitsOf m c = W (Proc.devRef .tc main_v7) :=
    eq_of_heq (hA 272 Cert.Kernel.main_v7 main_v7 (by decide) ⟨rfl, rfl⟩ ⟨rfl, rfl⟩)
  have hX : m ((c.tc : Thread Cert.Kernel.nD Cert.Kernel.τ).loc Cert.Kernel.main_arg0) = W (Proc.devRef .tc main_arg0) :=
    (bits_arg m c).symm.trans (eq_of_heq (hA 0 Cert.Kernel.main_arg0 main_arg0 (by decide) ⟨rfl, rfl⟩ ⟨rfl, rfl⟩))
  exact (hr c main_v19).trans ((congrFun hW _).trans ((htail W).trans (by rw [← hbits, ← hX])))

/-- The reference ends, leaving its argument, with every counter at zero. -/
theorem reference_frame (m : (ℓ : Loc nD τ sig) → Buf (Elt F) ℓ) (ρ : Dev nD → PrngReg) :
    θ_run (defs (F := F)) (onTc (τ := τ) main) ⟨m, fun _ => 0, ρ⟩ fun r =>
      (∀ c : Dev nD, r.2.mem ((c.tc : Thread nD τ).loc main_arg0) = m ((c.tc : Thread nD τ).loc main_arg0)) ∧ r.2.sem = fun _ => 0 := by
  obtain ⟨ops, rest, hrun, -, harg, -⟩ := reference_line (F := F)
  exact (θ_run _ _ _).mono (fun r hr => ⟨fun c => (hr c main_arg0).trans (harg _), sem_eq_zero_of_no_sems (by decide) r.2⟩) (hrun m ρ)

end Reference

end Cert.Proof.Ring01

end
-- ==== Proof.lean ====
/-
  The certificate: the kernel's run and the reference's, put into the five statements of `Cert.Claim`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Same
public import proofs.«01_k».proof.Proof.Meet

@[expose] public section

noncomputable section

namespace Cert.Proof

open Idealize.ShloMosaic
open Idealize.ShloMosaic.TcCoe
open Idealize.SL.Sem
open Cert.Proof.Ring01

/-- The ideal program runs as the kernel's text at the extended reals does: it is the same text. -/
theorem ideal_run (m : (ℓ : Loc Cert.Kernel.nD Cert.Kernel.τ Cert.Kernel.sig) → Buf (Elt Ideal) ℓ) (ρ : Dev Cert.Kernel.nD → PrngReg) :
    θ_run (Cert.KernelIdeal.defs (F := Ideal)) (onTc (τ := Cert.Kernel.τ) (Cert.KernelIdeal.main (F := Ideal))) ⟨m, fun _ => 0, ρ⟩
      (fun r => (∀ c : Dev Cert.Kernel.nD,
          r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_v10)
            = outFull (rowOf m c) (m ((c.tc : Thread Cert.Kernel.nD Cert.Kernel.τ).loc Cert.Kernel.main_arg0)))
        ∧ r.2.sem = fun _ => 0) := by
  rw [defs_same, main_same]
  exact run_main m ρ

/-- The kernel ends, leaving its argument, with every counter at zero, -/
theorem frame_kernel : Cert.quiescent_Kernel := fun m ρ _ =>
  (θ_run _ _ _).mono (fun _ h => ⟨fun c => (h.1 c).1, h.2⟩) (run_main (F := Bits) m ρ)
/-- as does the kernel over the extended reals, -/
theorem frame_ideal : Cert.quiescent_KernelIdeal := fun m ρ _ =>
  (θ_run _ _ _).mono (fun _ h => ⟨fun c => (h.1 c).1, h.2⟩) (ideal_run m ρ)
/-- and the reference. -/
theorem frame_reference : Cert.quiescent_ReferenceIdeal := fun m ρ _ => reference_frame m ρ

/-- From the same argument the two end with the same result. -/
theorem same_result : Cert.algebraic_KernelIdeal_ReferenceIdeal := fun m ρ m' ρ' _ hagree =>
  ⟨fun c => maskedRelu (bitsOf m c) (m ((c.tc : Thread Cert.Kernel.nD Cert.Kernel.τ).loc Cert.Kernel.main_arg0)),
    (θ_run _ _ _).mono (fun _ h c => ⟨(h.1 c).2.trans (outFull_eq m c _), (h.1 c).1⟩) (ideal_run m ρ),
    reference_run m m' ρ' hagree⟩

theorem claim : Cert.Claim :=
  ⟨Cert.Kernel.Gen.facts, Cert.KernelIdeal.Gen.facts, Cert.ReferenceIdeal.Gen.facts,
    frame_kernel, frame_ideal, frame_reference, trivial, same_result⟩

end Cert.Proof

end
